-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![8, 512, 768]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = Layout.block ⟨3, ![2, 512, 768]⟩ ⟨3, ![8, 512, 768]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S8x512x32x64 : S_.BroadcastsInDim S8x512x32x64 (![] : Fin 0 → Fin S8x512x32x64.rank)
  reducesTo_S8x512x32x64_S_d0_1_2_3 : S8x512x32x64.ReducesTo [0, 1, 2, 3] S_

variable [Facts]

def fn {F : FTy → Type} [FloatOps F] (main_arg0 : FVec F S2x512x768 .f32) (main_arg1 : FVec F S768x512 .f32) (main_arg2 : FVec F S8x512x32x64 .f32) (main_arg3 : FVec F S8x512x32x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S8x512x32x64 .f32 := Host.absf main_arg2
  let main_cst_2 : FVec F S_ .f32 := constant S_ .f32 0x7F800000#32
  let main_v10 : FVec F S8x512x32x64 .f32 := broadcastInDim S8x512x32x64 ![] bcast_S_S8x512x32x64 main_cst_2
  let main_v11 : IVec S8x512x32x64 1 := cmpf .olt main_v9 main_v10
  let main_c_3 : IVec S_ 1 := constantI S_ 1 1#1
  let main_v12 : IVec S_ 1 := (fun x v => Host.reduce IntOp.andi x v reducesTo_S8x512x32x64_S_d0_1_2_3 h_S_) main_v11 main_c_3
  let main_v13 : IVec S_ 1 := andi main_v8 main_v12
  main_v13
-- ==== Pre_finite_ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S8x512x32x64 : S_.BroadcastsInDim S8x512x32x64 (![] : Fin 0 → Fin S8x512x32x64.rank)
  reducesTo_S8x512x32x64_S_d0_1_2_3 : S8x512x32x64.ReducesTo [0, 1, 2, 3] S_

variable [Facts]

def fn {F : FTy → Type} [FloatOps F] (main_arg0 : FVec F S8x512x768 .f32) (main_arg1 : FVec F S768x2048 .f32) (main_arg2 : FVec F S8x512x32x64 .f32) (main_arg3 : FVec F S8x512x32x64 .f32) (main_arg4 : FVec F S2048x768 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S8x512x32x64 .f32 := Host.absf main_arg2
  let main_cst_2 : FVec F S_ .f32 := constant S_ .f32 0x7F800000#32
  let main_v10 : FVec F S8x512x32x64 .f32 := broadcastInDim S8x512x32x64 ![] bcast_S_S8x512x32x64 main_cst_2
  let main_v11 : IVec S8x512x32x64 1 := cmpf .olt main_v9 main_v10
  let main_c_3 : IVec S_ 1 := constantI S_ 1 1#1
  let main_v12 : IVec S_ 1 := (fun x v => Host.reduce IntOp.andi x v reducesTo_S8x512x32x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S_ : Shape := ⟨0, ![]⟩
abbrev S2x512x32x64 : Shape := ⟨4, ![2, 512, 32, 64]⟩
abbrev S2x512x16x128 : Shape := ⟨4, ![2, 512, 16, 128]⟩
abbrev S16x2x512x128 : Shape := ⟨4, ![16, 2, 512, 128]⟩
abbrev S2x3x768x256 : Shape := ⟨4, ![2, 3, 768, 256]⟩
abbrev S2x3x256x768 : Shape := ⟨4, ![2, 3, 256, 768]⟩
abbrev S2x3 : Shape := ⟨2, ![2, 3]⟩
abbrev S256x256 : Shape := ⟨2, ![256, 256]⟩
abbrev S256x1 : Shape := ⟨2, ![256, 1]⟩
abbrev S1x512x768 : Shape := ⟨3, ![1, 512, 768]⟩
abbrev S1x1 : Shape := ⟨2, ![1, 1]⟩
abbrev S1x1x768x256 : Shape := ⟨4, ![1, 1, 768, 256]⟩
abbrev S768x256 : Shape := ⟨2, ![768, 256]⟩
abbrev S1x1x256x768 : Shape := ⟨4, ![1, 1, 256, 768]⟩
abbrev S256x768 : Shape := ⟨2, ![256, 768]⟩
abbrev S512x512 : Shape := ⟨2, ![512, 512]⟩
abbrev S512x64 : Shape := ⟨2, ![512, 64]⟩
abbrev S1x1x512x128 : Shape := ⟨4, ![1, 1, 512, 128]⟩
abbrev S1x512x128 : Shape := ⟨3, ![1, 512, 128]⟩
abbrev S512x128 : Shape := ⟨2, ![512, 128]⟩
abbrev S256x64 : Shape := ⟨2, ![256, 64]⟩
abbrev S256x65 : Shape := ⟨2, ![256, 65]⟩
abbrev S512x65 : Shape := ⟨2, ![512, 65]⟩
abbrev S512x1 : Shape := ⟨2, ![512, 1]⟩
abbrev S512x256 : Shape := ⟨2, ![512, 256]⟩

abbrev nBuf : Space → Nat
  | .hbm => 40
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S8x512x32x64, .f32⟩
  | .hbm, ⟨3, _⟩ => ⟨S8x512x32x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x32x64, .f32⟩
  | .hbm, ⟨22, _⟩ => ⟨S2x512x32x64, .bf16⟩
  | .hbm, ⟨23, _⟩ => ⟨S2x512x16x128, .bf16⟩
  | .hbm, ⟨24, _⟩ => ⟨S16x2x512x128, .bf16⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S2x512x32x64, .f32⟩
  | .hbm, ⟨36, _⟩ => ⟨S2x512x32x64, .bf16⟩
  | .hbm, ⟨37, _⟩ => ⟨S2x512x16x128, .bf16⟩
  | .hbm, ⟨38, _⟩ => ⟨S16x2x512x128, .bf16⟩
  | .hbm, ⟨39, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S512x768, .f32⟩
  | .local _ .vmem, ⟨3, _⟩ => ⟨S2x512x768, .f32⟩
  | .local _ .vmem, ⟨4, _⟩ => ⟨S768x512, .bf16⟩
  | .local _ .vmem, ⟨5, _⟩ => ⟨S512x768, .bf16⟩
  | .local _ .vmem, ⟨6, _⟩ => ⟨S16x2x512x128, .bf16⟩
  | .local _ .vmem, ⟨7, _⟩ => ⟨S16x2x512x128, .bf16⟩
  | .local _ .vmem, ⟨8, _⟩ => ⟨S2x3x768x256, .bf16⟩
  | .local _ .vmem, ⟨9, _⟩ => ⟨S2x3x256x768, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_c_9 : Ref sig .tc := ⟨.hbm, 29, rfl⟩
abbrev main_v15 : Ref sig .tc := ⟨.hbm, 30, rfl⟩
abbrev main_v16 : Ref sig .tc := ⟨.hbm, 31, rfl⟩
abbrev main_c_10 : Ref sig .tc := ⟨.hbm, 32, rfl⟩
abbrev main_c_11 : Ref sig .tc := ⟨.hbm, 33, rfl⟩
abbrev main_c_12 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_42 : BitVec 32 := 1#32
  let v100 : BitVec 32 := Scalar.muli v14 c1_i32_42
  let v101 : BitVec 32 := Scalar.addi c0_i32_43 v100
  v101.toNat
def k0_dev2 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_45 : BitVec 32 := 1#32
  let v102 : BitVec 32 := Scalar.muli v25 c1_i32_45
  let v103 : BitVec 32 := Scalar.addi c0_i32_46 v102
  v103.toNat
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_53 : BitVec 32 := 1#32
  let v104 : BitVec 32 := Scalar.muli v25 c1_i32_53
  let v105 : BitVec 32 := Scalar.addi c0_i32_54 v104
  v105.toNat
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_65 : BitVec 32 := 1#32
  let v113 : BitVec 32 := Scalar.muli v25 c1_i32_65
  let v114 : BitVec 32 := Scalar.addi c0_i32_66 v113
  v114.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_77 : BitVec 32 := 1#32
  let v122 : BitVec 32 := Scalar.muli v14 c1_i32_77
  let v123 : BitVec 32 := Scalar.addi c0_i32_78 v122
  v123.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_88 : BitVec 32 := 1#32
  let v131 : BitVec 32 := Scalar.muli v14 c1_i32_88
  let v132 : BitVec 32 := Scalar.addi c0_i32_89 v131
  v132.toNat
def k0_off1 (d0 : Dev nD) (c0_i32_107 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v140 : BitVec 32 := Scalar.muli v2 c8_i32
  let c0_i32_101 : BitVec 32 := 0#32
  let v148 : BitVec 1 := Scalar.cmpi .sgt v140 c0_i32_101
  let v149 : BitVec 32 := Scalar.extui v148
  let c0_i32_102 : BitVec 32 := 0#32
  let v150 : BitVec 1 := Scalar.cmpi .slt v140 c0_i32_102
  let v151 : BitVec 32 := Scalar.extui v150
  let v152 : BitVec 32 := Scalar.subi v149 v151
  let c2_i32_100 : BitVec 32 := 2#32
  let c0_i32_103 : BitVec 32 := 0#32
  let v153 : BitVec 1 := Scalar.cmpi .sgt c2_i32_100 c0_i32_103
  let v154 : BitVec 32 := Scalar.extui v153
  let c0_i32_104 : BitVec 32 := 0#32
  let v155 : BitVec 1 := Scalar.cmpi .slt c2_i32_100 c0_i32_104
  let v156 : BitVec 32 := Scalar.extui v155
  let v157 : BitVec 32 := Scalar.subi v154 v156
  let v158 : BitVec 1 := Scalar.cmpi .ne v152 v157
  let v159 : BitVec 32 := Scalar.remsi v140 c2_i32_100
  let c0_i32_105 : BitVec 32 := 0#32
  let v160 : BitVec 1 := Scalar.cmpi .ne v159 c0_i32_105
  let v161 : BitVec 1 := Scalar.andi v158 v160
  let v147 : BitVec 32 := Scalar.divsi v140 c2_i32_100
  let c1_i32_106 : BitVec 32 := 1#32
  let v162 : BitVec 32 := Scalar.subi v147 c1_i32_106
  let v163 : BitVec 32 := Scalar.select v161 v162 v147
  let v164 : BitVec 32 := Scalar.addi v163 c0_i32_107
  let v166 : Index := Scalar.indexCast v164
  let c0_108 : Index := 0#32
  let c0_109 : Index := 0#32
  let c0_110 : Index := 0#32
  ![v166.toNat, 0, 0, 0]
def k0_off2 (d0 : Dev nD) (c0_i32_272 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v140 : BitVec 32 := Scalar.muli v2 c8_i32
  let c0_i32_266 : BitVec 32 := 0#32
  let v621 : BitVec 1 := Scalar.cmpi .sgt v140 c0_i32_266
  let v622 : BitVec 32 := Scalar.extui v621
  let c0_i32_267 : BitVec 32 := 0#32
  let v623 : BitVec 1 := Scalar.cmpi .slt v140 c0_i32_267
  let v624 : BitVec 32 := Scalar.extui v623
  let v625 : BitVec 32 := Scalar.subi v622 v624
  let c2_i32_265 : BitVec 32 := 2#32
  let c0_i32_268 : BitVec 32 := 0#32
  let v626 : BitVec 1 := Scalar.cmpi .sgt c2_i32_265 c0_i32_268
  let v627 : BitVec 32 := Scalar.extui v626
  let c0_i32_269 : BitVec 32 := 0#32
  let v628 : BitVec 1 := Scalar.cmpi .slt c2_i32_265 c0_i32_269
  let v629 : BitVec 32 := Scalar.extui v628
  let v630 : BitVec 32 := Scalar.subi v627 v629
  let v631 : BitVec 1 := Scalar.cmpi .ne v625 v630
  let v632 : BitVec 32 := Scalar.remsi v140 c2_i32_265
  let c0_i32_270 : BitVec 32 := 0#32
  let v633 : BitVec 1 := Scalar.cmpi .ne v632 c0_i32_270
  let v634 : BitVec 1 := Scalar.andi v631 v633
  let v620 : BitVec 32 := Scalar.divsi v140 c2_i32_265
  let c1_i32_271 : BitVec 32 := 1#32
  let v635 : BitVec 32 := Scalar.subi v620 c1_i32_271
  let v636 : BitVec 32 := Scalar.select v634 v635 v620
  let v637 : BitVec 32 := Scalar.addi v636 c0_i32_272
  let v639 : Index := Scalar.indexCast v637
  let c1_273 : Index := 1#32
  let c0_274 : Index := 0#32
  let c0_275 : Index := 0#32
  ![v639.toNat, 1, 0, 0]
def k0_dev7 (d0 : Dev nD) : Nat :=
  let c0_i32_462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_461 : BitVec 32 := 1#32
  let v1103 : BitVec 32 := Scalar.muli v25 c1_i32_461
  let v1104 : BitVec 32 := Scalar.addi c0_i32_462 v1103
  v1104.toNat
def k0_dev8 (d0 : Dev nD) : Nat :=
  let c0_i32_476 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_475 : BitVec 32 := 1#32
  let v1113 : BitVec 32 := Scalar.muli v25 c1_i32_475
  let v1114 : BitVec 32 := Scalar.addi c0_i32_476 v1113
  v1114.toNat
def k0_dev9 (d0 : Dev nD) : Nat :=
  let c0_i32_514 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_513 : BitVec 32 := 1#32
  let v1137 : BitVec 32 := Scalar.muli v14 c1_i32_513
  let v1138 : BitVec 32 := Scalar.addi c0_i32_514 v1137
  v1138.toNat
def k0_dev10 (d0 : Dev nD) : Nat :=
  let c0_i32_528 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_527 : BitVec 32 := 1#32
  let v1147 : BitVec 32 := Scalar.muli v14 c1_i32_527
  let v1148 : BitVec 32 := Scalar.addi c0_i32_528 v1147
  v1148.toNat
def k0_off3 (d0 : Dev nD) (c3_i32_533 : BitVec 32) (c0_i32_558 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1157 : BitVec 32 := Scalar.addi v2 c3_i32_533
  let c4_i32_534 : BitVec 32 := 4#32
  let c0_i32_535 : BitVec 32 := 0#32
  let v1158 : BitVec 1 := Scalar.cmpi .eq c4_i32_534 c0_i32_535
  let c1_i32_536 : BitVec 32 := 1#32
  let v1159 : BitVec 32 := Scalar.select v1158 c1_i32_536 c4_i32_534
  let v1160 : BitVec 32 := Scalar.remsi v1157 v1159
  let c0_i32_538 : BitVec 32 := 0#32
  let v1162 : BitVec 1 := Scalar.cmpi .slt v1160 c0_i32_538
  let c0_i32_539 : BitVec 32 := 0#32
  let v1163 : BitVec 1 := Scalar.cmpi .slt v1159 c0_i32_539
  let v1164 : BitVec 1 := Scalar.xori v1162 v1163
  let c0_i32_537 : BitVec 32 := 0#32
  let v1161 : BitVec 1 := Scalar.cmpi .ne v1160 c0_i32_537
  let v1165 : BitVec 1 := Scalar.andi v1164 v1161
  let v1166 : BitVec 32 := Scalar.addi v1160 v1159
  let v1167 : BitVec 32 := Scalar.select v1165 v1166 v1160
  let c8_i32_540 : BitVec 32 := 8#32
  let v1168 : BitVec 32 := Scalar.muli v1167 c8_i32_540
  let c0_i32_552 : BitVec 32 := 0#32
  let v1178 : BitVec 1 := Scalar.cmpi .sgt v1168 c0_i32_552
  let v1179 : BitVec 32 := Scalar.extui v1178
  let c0_i32_553 : BitVec 32 := 0#32
  let v1180 : BitVec 1 := Scalar.cmpi .slt v1168 c0_i32_553
  let v1181 : BitVec 32 := Scalar.extui v1180
  let v1182 : BitVec 32 := Scalar.subi v1179 v1181
  let c2_i32_551 : BitVec 32 := 2#32
  let c0_i32_554 : BitVec 32 := 0#32
  let v1183 : BitVec 1 := Scalar.cmpi .sgt c2_i32_551 c0_i32_554
  let v1184 : BitVec 32 := Scalar.extui v1183
  let c0_i32_555 : BitVec 32 := 0#32
  let v1185 : BitVec 1 := Scalar.cmpi .slt c2_i32_551 c0_i32_555
  let v1186 : BitVec 32 := Scalar.extui v1185
  let v1187 : BitVec 32 := Scalar.subi v1184 v1186
  let v1188 : BitVec 1 := Scalar.cmpi .ne v1182 v1187
  let v1189 : BitVec 32 := Scalar.remsi v1168 c2_i32_551
  let c0_i32_556 : BitVec 32 := 0#32
  let v1190 : BitVec 1 := Scalar.cmpi .ne v1189 c0_i32_556
  let v1191 : BitVec 1 := Scalar.andi v1188 v1190
  let v1177 : BitVec 32 := Scalar.divsi v1168 c2_i32_551
  let c1_i32_557 : BitVec 32 := 1#32
  let v1192 : BitVec 32 := Scalar.subi v1177 c1_i32_557
  let v1193 : BitVec 32 := Scalar.select v1191 v1192 v1177
  let v1194 : BitVec 32 := Scalar.addi v1193 c0_i32_558
  let v1196 : Index := Scalar.indexCast v1194
  let c0_559 : Index := 0#32
  let c0_560 : Index := 0#32
  let c0_561 : Index := 0#32
  ![v1196.toNat, 0, 0, 0]
def k0_off4 (d0 : Dev nD) (c3_i32_533 : BitVec 32) (c0_i32_647 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1157 : BitVec 32 := Scalar.addi v2 c3_i32_533
  let c4_i32_534 : BitVec 32 := 4#32
  let c0_i32_535 : BitVec 32 := 0#32
  let v1158 : BitVec 1 := Scalar.cmpi .eq c4_i32_534 c0_i32_535
  let c1_i32_536 : BitVec 32 := 1#32
  let v1159 : BitVec 32 := Scalar.select v1158 c1_i32_536 c4_i32_534
  let v1160 : BitVec 32 := Scalar.remsi v1157 v1159
  let c0_i32_538 : BitVec 32 := 0#32
  let v1162 : BitVec 1 := Scalar.cmpi .slt v1160 c0_i32_538
  let c0_i32_539 : BitVec 32 := 0#32
  let v1163 : BitVec 1 := Scalar.cmpi .slt v1159 c0_i32_539
  let v1164 : BitVec 1 := Scalar.xori v1162 v1163
  let c0_i32_537 : BitVec 32 := 0#32
  let v1161 : BitVec 1 := Scalar.cmpi .ne v1160 c0_i32_537
  let v1165 : BitVec 1 := Scalar.andi v1164 v1161
  let v1166 : BitVec 32 := Scalar.addi v1160 v1159
  let v1167 : BitVec 32 := Scalar.select v1165 v1166 v1160
  let c8_i32_540 : BitVec 32 := 8#32
  let v1168 : BitVec 32 := Scalar.muli v1167 c8_i32_540
  let c0_i32_641 : BitVec 32 := 0#32
  let v1422 : BitVec 1 := Scalar.cmpi .sgt v1168 c0_i32_641
  let v1423 : BitVec 32 := Scalar.extui v1422
  let c0_i32_642 : BitVec 32 := 0#32
  let v1424 : BitVec 1 := Scalar.cmpi .slt v1168 c0_i32_642
  let v1425 : BitVec 32 := Scalar.extui v1424
  let v1426 : BitVec 32 := Scalar.subi v1423 v1425
  let c2_i32_640 : BitVec 32 := 2#32
  let c0_i32_643 : BitVec 32 := 0#32
  let v1427 : BitVec 1 := Scalar.cmpi .sgt c2_i32_640 c0_i32_643
  let v1428 : BitVec 32 := Scalar.extui v1427
  let c0_i32_644 : BitVec 32 := 0#32
  let v1429 : BitVec 1 := Scalar.cmpi .slt c2_i32_640 c0_i32_644
  let v1430 : BitVec 32 := Scalar.extui v1429
  let v1431 : BitVec 32 := Scalar.subi v1428 v1430
  let v1432 : BitVec 1 := Scalar.cmpi .ne v1426 v1431
  let v1433 : BitVec 32 := Scalar.remsi v1168 c2_i32_640
  let c0_i32_645 : BitVec 32 := 0#32
  let v1434 : BitVec 1 := Scalar.cmpi .ne v1433 c0_i32_645
  let v1435 : BitVec 1 := Scalar.andi v1432 v1434
  let v1421 : BitVec 32 := Scalar.divsi v1168 c2_i32_640
  let c1_i32_646 : BitVec 32 := 1#32
  let v1436 : BitVec 32 := Scalar.subi v1421 c1_i32_646
  let v1437 : BitVec 32 := Scalar.select v1435 v1436 v1421
  let v1438 : BitVec 32 := Scalar.addi v1437 c0_i32_647
  let v1440 : Index := Scalar.indexCast v1438
  let c1_648 : Index := 1#32
  let c0_649 : Index := 0#32
  let c0_650 : Index := 0#32
  ![v1440.toNat, 1, 0, 0]
def k0_off5 (d0 : Dev nD) (c0_i32_727 : BitVec 32) (c0_i32_754 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1661 : BitVec 32 := Scalar.addi v2 c0_i32_727
  let c1_i32_728 : BitVec 32 := 1#32
  let v1662 : BitVec 32 := Scalar.addi v1661 c1_i32_728
  let c4_i32_729 : BitVec 32 := 4#32
  let c0_i32_730 : BitVec 32 := 0#32
  let v1663 : BitVec 1 := Scalar.cmpi .eq c4_i32_729 c0_i32_730
  let c1_i32_731 : BitVec 32 := 1#32
  let v1664 : BitVec 32 := Scalar.select v1663 c1_i32_731 c4_i32_729
  let v1665 : BitVec 32 := Scalar.remsi v1662 v1664
  let c0_i32_733 : BitVec 32 := 0#32
  let v1667 : BitVec 1 := Scalar.cmpi .slt v1665 c0_i32_733
  let c0_i32_734 : BitVec 32 := 0#32
  let v1668 : BitVec 1 := Scalar.cmpi .slt v1664 c0_i32_734
  let v1669 : BitVec 1 := Scalar.xori v1667 v1668
  let c0_i32_732 : BitVec 32 := 0#32
  let v1666 : BitVec 1 := Scalar.cmpi .ne v1665 c0_i32_732
  let v1670 : BitVec 1 := Scalar.andi v1669 v1666
  let v1671 : BitVec 32 := Scalar.addi v1665 v1664
  let v1672 : BitVec 32 := Scalar.select v1670 v1671 v1665
  let c8_i32_735 : BitVec 32 := 8#32
  let v1673 : BitVec 32 := Scalar.muli v1672 c8_i32_735
  let c4_i32_736 : BitVec 32 := 4#32
  let v1674 : BitVec 32 := Scalar.addi v1673 c4_i32_736
  let c0_i32_748 : BitVec 32 := 0#32
  let v1684 : BitVec 1 := Scalar.cmpi .sgt v1674 c0_i32_748
  let v1685 : BitVec 32 := Scalar.extui v1684
  let c0_i32_749 : BitVec 32 := 0#32
  let v1686 : BitVec 1 := Scalar.cmpi .slt v1674 c0_i32_749
  let v1687 : BitVec 32 := Scalar.extui v1686
  let v1688 : BitVec 32 := Scalar.subi v1685 v1687
  let c2_i32_747 : BitVec 32 := 2#32
  let c0_i32_750 : BitVec 32 := 0#32
  let v1689 : BitVec 1 := Scalar.cmpi .sgt c2_i32_747 c0_i32_750
  let v1690 : BitVec 32 := Scalar.extui v1689
  let c0_i32_751 : BitVec 32 := 0#32
  let v1691 : BitVec 1 := Scalar.cmpi .slt c2_i32_747 c0_i32_751
  let v1692 : BitVec 32 := Scalar.extui v1691
  let v1693 : BitVec 32 := Scalar.subi v1690 v1692
  let v1694 : BitVec 1 := Scalar.cmpi .ne v1688 v1693
  let v1695 : BitVec 32 := Scalar.remsi v1674 c2_i32_747
  let c0_i32_752 : BitVec 32 := 0#32
  let v1696 : BitVec 1 := Scalar.cmpi .ne v1695 c0_i32_752
  let v1697 : BitVec 1 := Scalar.andi v1694 v1696
  let v1683 : BitVec 32 := Scalar.divsi v1674 c2_i32_747
  let c1_i32_753 : BitVec 32 := 1#32
  let v1698 : BitVec 32 := Scalar.subi v1683 c1_i32_753
  let v1699 : BitVec 32 := Scalar.select v1697 v1698 v1683
  let v1700 : BitVec 32 := Scalar.addi v1699 c0_i32_754
  let v1702 : Index := Scalar.indexCast v1700
  let c0_755 : Index := 0#32
  let c0_756 : Index := 0#32
  let c0_757 : Index := 0#32
  ![v1702.toNat, 0, 0, 0]
def k0_off6 (d0 : Dev nD) (c0_i32_727 : BitVec 32) (c0_i32_843 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1661 : BitVec 32 := Scalar.addi v2 c0_i32_727
  let c1_i32_728 : BitVec 32 := 1#32
  let v1662 : BitVec 32 := Scalar.addi v1661 c1_i32_728
  let c4_i32_729 : BitVec 32 := 4#32
  let c0_i32_730 : BitVec 32 := 0#32
  let v1663 : BitVec 1 := Scalar.cmpi .eq c4_i32_729 c0_i32_730
  let c1_i32_731 : BitVec 32 := 1#32
  let v1664 : BitVec 32 := Scalar.select v1663 c1_i32_731 c4_i32_729
  let v1665 : BitVec 32 := Scalar.remsi v1662 v1664
  let c0_i32_733 : BitVec 32 := 0#32
  let v1667 : BitVec 1 := Scalar.cmpi .slt v1665 c0_i32_733
  let c0_i32_734 : BitVec 32 := 0#32
  let v1668 : BitVec 1 := Scalar.cmpi .slt v1664 c0_i32_734
  let v1669 : BitVec 1 := Scalar.xori v1667 v1668
  let c0_i32_732 : BitVec 32 := 0#32
  let v1666 : BitVec 1 := Scalar.cmpi .ne v1665 c0_i32_732
  let v1670 : BitVec 1 := Scalar.andi v1669 v1666
  let v1671 : BitVec 32 := Scalar.addi v1665 v1664
  let v1672 : BitVec 32 := Scalar.select v1670 v1671 v1665
  let c8_i32_735 : BitVec 32 := 8#32
  let v1673 : BitVec 32 := Scalar.muli v1672 c8_i32_735
  let c4_i32_736 : BitVec 32 := 4#32
  let v1674 : BitVec 32 := Scalar.addi v1673 c4_i32_736
  let c0_i32_837 : BitVec 32 := 0#32
  let v1928 : BitVec 1 := Scalar.cmpi .sgt v1674 c0_i32_837
  let v1929 : BitVec 32 := Scalar.extui v1928
  let c0_i32_838 : BitVec 32 := 0#32
  let v1930 : BitVec 1 := Scalar.cmpi .slt v1674 c0_i32_838
  let v1931 : BitVec 32 := Scalar.extui v1930
  let v1932 : BitVec 32 := Scalar.subi v1929 v1931
  let c2_i32_836 : BitVec 32 := 2#32
  let c0_i32_839 : BitVec 32 := 0#32
  let v1933 : BitVec 1 := Scalar.cmpi .sgt c2_i32_836 c0_i32_839
  let v1934 : BitVec 32 := Scalar.extui v1933
  let c0_i32_840 : BitVec 32 := 0#32
  let v1935 : BitVec 1 := Scalar.cmpi .slt c2_i32_836 c0_i32_840
  let v1936 : BitVec 32 := Scalar.extui v1935
  let v1937 : BitVec 32 := Scalar.subi v1934 v1936
  let v1938 : BitVec 1 := Scalar.cmpi .ne v1932 v1937
  let v1939 : BitVec 32 := Scalar.remsi v1674 c2_i32_836
  let c0_i32_841 : BitVec 32 := 0#32
  let v1940 : BitVec 1 := Scalar.cmpi .ne v1939 c0_i32_841
  let v1941 : BitVec 1 := Scalar.andi v1938 v1940
  let v1927 : BitVec 32 := Scalar.divsi v1674 c2_i32_836
  let c1_i32_842 : BitVec 32 := 1#32
  let v1942 : BitVec 32 := Scalar.subi v1927 c1_i32_842
  let v1943 : BitVec 32 := Scalar.select v1941 v1942 v1927
  let v1944 : BitVec 32 := Scalar.addi v1943 c0_i32_843
  let v1946 : Index := Scalar.indexCast v1944
  let c1_844 : Index := 1#32
  let c0_845 : Index := 0#32
  let c0_846 : Index := 0#32
  ![v1946.toNat, 1, 0, 0]
def k0_dev11 (d0 : Dev nD) : Nat :=
  let c0_i32_960 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_959 : BitVec 32 := 1#32
  let v2183 : BitVec 32 := Scalar.muli v25 c1_i32_959
  let v2184 : BitVec 32 := Scalar.addi c0_i32_960 v2183
  v2184.toNat
def k0_dev12 (d0 : Dev nD) : Nat :=
  let c0_i32_974 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_973 : BitVec 32 := 1#32
  let v2193 : BitVec 32 := Scalar.muli v25 c1_i32_973
  let v2194 : BitVec 32 := Scalar.addi c0_i32_974 v2193
  v2194.toNat
def k0_dev13 (d0 : Dev nD) : Nat :=
  let c0_i32_1016 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1015 : BitVec 32 := 1#32
  let v2219 : BitVec 32 := Scalar.muli v14 c1_i32_1015
  let v2220 : BitVec 32 := Scalar.addi c0_i32_1016 v2219
  v2220.toNat
def k0_dev14 (d0 : Dev nD) : Nat :=
  let c0_i32_1030 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1029 : BitVec 32 := 1#32
  let v2229 : BitVec 32 := Scalar.muli v14 c1_i32_1029
  let v2230 : BitVec 32 := Scalar.addi c0_i32_1030 v2229
  v2230.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S8x512x2048 : Shape := ⟨3, ![8, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S8x32x512x512 : Shape := ⟨4, ![8, 32, 512, 512]⟩
abbrev S1x1x512x512 : Shape := ⟨4, ![1, 1, 512, 512]⟩
abbrev S8x32x512 : Shape := ⟨3, ![8, 32, 512]⟩
abbrev S8x32x512x1 : Shape := ⟨4, ![8, 32, 512, 1]⟩
abbrev S1x1x512x1 : Shape := ⟨4, ![1, 1, 512, 1]⟩
abbrev S8x32x64x512 : Shape := ⟨4, ![8, 32, 64, 512]⟩

abbrev nBuf : Space → Nat
  | .hbm => 89
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S768x2048, .f32⟩
  | .hbm, ⟨2, _⟩ => ⟨S8x512x32x64, .f32⟩
  | .hbm, ⟨3, _⟩ => ⟨S8x512x32x64, .f32⟩
  | .hbm, ⟨4, _⟩ => ⟨S2048x768, .f32⟩
  | .hbm, ⟨5, _⟩ => ⟨S8x512x2048, .f32⟩
  | .hbm, ⟨6, _⟩ => ⟨S8x512x32x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S8x32x512x512, .f32⟩
  | .hbm, ⟨51, _⟩ => ⟨S_, .f32⟩
  | .hbm, ⟨52, _⟩ => ⟨S8x32x512x512, .f32⟩
  | .hbm, ⟨53, _⟩ => ⟨S8x32x512x512, .f32⟩
  | .hbm, ⟨54, _⟩ => ⟨S1x1x512x512, .i1⟩
  | .hbm, ⟨55, _⟩ => ⟨S_, .f32⟩
  | .hbm, ⟨56, _⟩ => ⟨S_, .f32⟩
  | .hbm, ⟨57, _⟩ => ⟨S8x32x512x512, .i1⟩
  | .hbm, ⟨58, _⟩ => ⟨S8x32x512x512, .f32⟩
  | .hbm, ⟨59, _⟩ => ⟨S8x32x512x512, .f32⟩
  | .hbm, ⟨60, _⟩ => ⟨S_, .f32⟩
  | .hbm, ⟨61, _⟩ => ⟨S8x32x512, .f32⟩
  | .hbm, ⟨62, _⟩ => ⟨S8x32x512x1, .f32⟩
  | .hbm, ⟨63, _⟩ => ⟨S8x32x512x512, .f32⟩
  | .hbm, ⟨64, _⟩ => ⟨S8x32x512x512, .f32⟩
  | .hbm, ⟨65, _⟩ => ⟨S8x32x512x512, .f32⟩
  | .hbm, ⟨66, _⟩ => ⟨S_, .i1⟩
  | .hbm, ⟨67, _⟩ => ⟨S512, .i1⟩
  | .hbm, ⟨68, _⟩ => ⟨S1x1x512x1, .i1⟩
  | .hbm, ⟨69, _⟩ => ⟨S_, .f32⟩
  | .hbm, ⟨70, _⟩ => ⟨S8x32x512, .f32⟩
  | .hbm, ⟨71, _⟩ => ⟨S8x32x512x1, .f32⟩
  | .hbm, ⟨72, _⟩ => ⟨S_, .f32⟩
  | .hbm, ⟨73, _⟩ => ⟨S_, .f32⟩
  | .hbm, ⟨74, _⟩ => ⟨S8x32x512x1, .i1⟩
  | .hbm, ⟨75, _⟩ => ⟨S8x32x512x1, .f32⟩
  | .hbm, ⟨76, _⟩ => ⟨S8x32x512x1, .f32⟩
  | .hbm, ⟨77, _⟩ => ⟨S8x32x512x512, .f32⟩
  | .hbm, ⟨78, _⟩ => ⟨S8x32x512x512, .f32⟩
  | .hbm, ⟨79, _⟩ => ⟨S1x1x512x1, .i1⟩
  | .hbm, ⟨80, _⟩ => ⟨S_, .f32⟩
  | .hbm, ⟨81, _⟩ => ⟨S_, .f32⟩
  | .hbm, ⟨82, _⟩ => ⟨S8x32x512x512, .i1⟩
  | .hbm, ⟨83, _⟩ => ⟨S8x32x512x512, .f32⟩
  | .hbm, ⟨84, _⟩ => ⟨S8x32x512x512, .f32⟩
  | .hbm, ⟨85, _⟩ => ⟨S8x32x64x512, .f32⟩
  | .hbm, ⟨86, _⟩ => ⟨S8x512x32x64, .f32⟩
  | .hbm, ⟨87, _⟩ => ⟨S8x512x2048, .f32⟩
  | .hbm, ⟨88, _⟩ => ⟨S8x512x768, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelIdeal.Schedule.lean ====
/-
# The protocol of the two-way weight ring

Four devices stand in a ring. Device `c` owns one block of the query weights and one block of the output weights. Both
blocks are cut into two halves. Half 0 travels to the right, half 1 to the left, three hops each, so that every device
sees every half once. A half that has arrived is kept in a slot of its own (`[d, h]`: direction `d`, hop `h`), is
forwarded from there to the next device's slot `[d, h+1]`, and is read by the device's own computation meanwhile.

Semaphores of a device `c`, who waits on them, who pays, and what the payment hands over:

* the barrier (regular): `c` waits once for 2. The neighbour on the right pays 1 and hands over its six slots `[0, *]`
  (into which `c` sends), the neighbour on the left pays 1 and hands over its six slots `[1, *]`. Each also tells that
  its arrival semaphores of that direction are ready.
* the arrival semaphore of a slot `[d, h]` (one per kind of weight): `c` waits once for the whole transfer, which its
  neighbour started; the landing hands over the slot, holding the half of the device `h + 1` places upstream.
* the departure semaphore of `[d, h]`: `c` waits once, at the end; the landing hands back the lent share of the source.
* the semaphore of the two local copies of keys and values: both copies pay it, `c` waits twice.

Everything here is generic in the float instance.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The neighbour that direction `d` sends to: the right one for 0, the left one for 1. -/
def nbr (d : Fin 2) (c : Dev nD) : Dev nD := ⟨(c.val + 1 + 2 * d.val) % 4, Nat.mod_lt _ (by decide)⟩
/-- The other direction. -/
def opp (d : Fin 2) : Fin 2 := 1 - d
theorem nbr_opp (d : Fin 2) (c : Dev nD) : nbr d (nbr (opp d) c) = c := by revert d c; decide
theorem opp_nbr (d : Fin 2) (c : Dev nD) : nbr (opp d) (nbr d c) = c := by revert d c; decide
theorem opp_opp (d : Fin 2) : opp (opp d) = d := by revert d; decide
def turn (d : Fin 2) : Dev nD ≃ Dev nD := ⟨nbr d, nbr (opp d), opp_nbr d, nbr_opp d⟩

set_option backward.proofsInPublic true in
/-- The device whose half sits in slot `[d, h]` of device `c` once it has landed: `h + 1` places upstream. -/
def org (d : Fin 2) (h : Fin 3) (c : Dev nD) : Dev nD := ⟨(c.val + (h.val + 1) * (3 + 2 * d.val)) % 4, Nat.mod_lt _ (by decide)⟩
theorem org_nbr_zero (d : Fin 2) (c : Dev nD) : org d 0 (nbr d c) = c := by revert d c; decide
theorem org_nbr_one (d : Fin 2) (c : Dev nD) : org d 1 (nbr d c) = org d 0 c := by revert d c; decide
theorem org_nbr_two (d : Fin 2) (c : Dev nD) : org d 2 (nbr d c) = org d 1 c := by revert d c; decide

/-! ## The memrefs -/

abbrev wqM : Memref sig .tc .vmem S768x512 .bf16 := Memref.whole cc0_scratch0
abbrev woM : Memref sig .tc .vmem S512x768 .bf16 := Memref.whole cc0_scratch1
abbrev ktM : Memref sig .tc .vmem S16x2x512x128 .bf16 := Memref.whole cc0_scratch2
abbrev vtM : Memref sig .tc .vmem S16x2x512x128 .bf16 := Memref.whole cc0_scratch3
abbrev qcM : Memref sig .tc .vmem S2x3x768x256 .bf16 := Memref.whole cc0_scratch4
abbrev ocM : Memref sig .tc .vmem S2x3x256x768 .bf16 := Memref.whole cc0_scratch5
abbrev khM : Memref sig .tc .hbm S16x2x512x128 .bf16 := Memref.whole main_v12
abbrev vhM : Memref sig .tc .hbm S16x2x512x128 .bf16 := Memref.whole main_v20

theorem inb_qH (d : Fin 2) : ∀ i, (![0, 256 * d.val] : Fin S768x512.rank → Nat) i + S768x256.size i ≤ S768x512.size i := by revert d; decide
theorem inb_oH (d : Fin 2) : ∀ i, (![256 * d.val, 0] : Fin S512x768.rank → Nat) i + S256x768.size i ≤ S512x768.size i := by revert d; decide
theorem inb_qS (d : Fin 2) (h : Fin 3) : ∀ i, (![d.val, h.val, 0, 0] : Fin S2x3x768x256.rank → Nat) i + S1x1x768x256.size i ≤ S2x3x768x256.size i := by
  revert d h; decide
theorem inb_oS (d : Fin 2) (h : Fin 3) : ∀ i, (![d.val, h.val, 0, 0] : Fin S2x3x256x768.rank → Nat) i + S1x1x256x768.size i ≤ S2x3x256x768.size i := by
  revert d h; decide

/-- Half `d` of the device's own query weights (its columns) and output weights (its rows). -/
abbrev qH (d : Fin 2) : Memref sig .tc .vmem S768x256 .bf16 := wqM.slice (Rect.unit (s := S768x512) ![0, 256 * d.val] S768x256.size (inb_qH d)) (fun _ => rfl)
abbrev oH (d : Fin 2) : Memref sig .tc .vmem S256x768 .bf16 := woM.slice (Rect.unit (s := S512x768) ![256 * d.val, 0] S256x768.size (inb_oH d)) (fun _ => rfl)
/-- Slot `[d, h]` of the two landing buffers. -/
abbrev qS (d : Fin 2) (h : Fin 3) : Memref sig .tc .vmem S768x256 .bf16 :=
  (qcM.slice (Rect.unit (s := S2x3x768x256) ![d.val, h.val, 0, 0] S1x1x768x256.size (inb_qS d h)) (fun _ => rfl)).squeeze S768x256 squeezes_S1x1x768x256_S768x256
abbrev oS (d : Fin 2) (h : Fin 3) : Memref sig .tc .vmem S256x768 .bf16 :=
  (ocM.slice (Rect.unit (s := S2x3x256x768) ![d.val, h.val, 0, 0] S1x1x256x768.size (inb_oS d h)) (fun _ => rfl)).squeeze S256x768 squeezes_S1x1x256x768_S256x768

/-! ## The semaphores and the cells -/

abbrev barS : Sem sig := (SemArray.scalar (sig.barrier 0 rfl) : Sems sig S_).sem
theorem xfer_lt (t d : Fin 2) (h : Fin 3) (b : Nat) (hb : b ≤ 10) : b + 12 * t.val + 3 * d.val + h.val < 29 := by have := t.2; have := d.2; have := h.2; omega
/-- The departure and arrival semaphores of transfer `(t, d, h)`: `t = 0` query weights, `t = 1` output weights. -/
abbrev sndS (t d : Fin 2) (h : Fin 3) : DmaSem sig := ⟨4 + 12 * t.val + 3 * d.val + h.val, xfer_lt t d h 4 (by decide)⟩
abbrev rcvS (t d : Fin 2) (h : Fin 3) : DmaSem sig := ⟨10 + 12 * t.val + 3 * d.val + h.val, xfer_lt t d h 10 (by decide)⟩
abbrev kvS : DmaSem sig := ⟨28, by decide⟩

abbrev barCell (c : Dev nD) : GSem nD τ sig := ((c : Thread nD τ), .reg barS)
abbrev sndCell (t d : Fin 2) (h : Fin 3) (c : Dev nD) : GSem nD τ sig := ((c : Thread nD τ), .dma (sndS t d h))
abbrev rcvCell (t d : Fin 2) (h : Fin 3) (c : Dev nD) : GSem nD τ sig := ((c : Thread nD τ), .dma (rcvS t d h))
abbrev kvCell (c : Dev nD) : GSem nD τ sig := ((c : Thread nD τ), .dma kvS)

/-- What a transfer semaphore serves: kind, whether arrival, direction, hop. -/
def role (i : DmaSem sig) : Fin 2 × Bool × Fin 2 × Fin 3 :=
  (⟨(i.val - 4) / 12 % 2, Nat.mod_lt _ (by decide)⟩, decide ((i.val - 4) % 12 / 6 = 1), ⟨(i.val - 4) % 6 / 3 % 2, Nat.mod_lt _ (by decide)⟩,
    ⟨(i.val - 4) % 3, Nat.mod_lt _ (by decide)⟩)
theorem role_snd (t d : Fin 2) (h : Fin 3) : role (sndS t d h) = (t, false, d, h) := by revert t d h; decide
theorem role_rcv (t d : Fin 2) (h : Fin 3) : role (rcvS t d h) = (t, true, d, h) := by revert t d h; decide

abbrev NQ : ℕ := (qS 0 0).view.dmaCredit
abbrev NO : ℕ := (oS 0 0).view.dmaCredit
abbrev NK : ℕ := (ktM : Memref sig .tc .vmem S16x2x512x128 .bf16).view.dmaCredit
theorem NQ_pos : 0 < NQ := View.dmaCredit_pos _ (by decide)
theorem NO_pos : 0 < NO := View.dmaCredit_pos _ (by decide)
theorem NK_pos : 0 < NK := View.dmaCredit_pos _ (by decide)
/-- The units one transfer of kind `t` pays. -/
def amt (t : Fin 2) : ℕ := if t = 0 then NQ else NO
theorem amt_pos (t : Fin 2) : 0 < amt t := by unfold amt; split; exacts [NQ_pos, NO_pos]

/-! ## Contents -/

abbrev QBuf : Type := (cc0_scratch0 : Ref sig .tc).ty.Contents (Elt F)
abbrev OBuf : Type := (cc0_scratch1 : Ref sig .tc).ty.Contents (Elt F)
abbrev KVBuf : Type := (cc0_scratch2 : Ref sig .tc).ty.Contents (Elt F)

/-- What the proof fixes at launch: each device's rounded weight blocks and its keys and values. -/
structure Data (F : FTy → Type) where
  wq : Dev nD → QBuf (F := F)
  wo : Dev nD → OBuf (F := F)
  kk : Dev nD → KVBuf (F := F)
  vv : Dev nD → KVBuf (F := F)

variable (D : Data F)

/-- Held: device `c` owns memref `M`'s elements at share `q`, and they read `X`. -/
abbrev held {sp : Space} {s : Shape} {e : EltTy} (c : Dev nD) (M : Memref sig .tc sp s e) (q : PosShare TreeShare) (X : s.Idx → Elt F e) : sProp 𝕄 :=
  M.view.loc (c : Thread nD τ) ↦[M.view.set]{q} M.view.rep X
/-- The same at contents nobody names. -/
abbrev free {sp : Space} {s : Shape} {e : EltTy} (c : Dev nD) (M : Memref sig .tc sp s e) : sProp 𝕄 :=
  iprop(∃ f : Buf (Elt F) (M.view.loc (c : Thread nD τ)), M.view.loc (c : Thread nD τ) ↦[M.view.set]{fullShare} f)

/-- The half of device `o`'s weights that travels in direction `d`. -/
def halfQ (d : Fin 2) (o : Dev nD) : S768x256.Idx → Elt F .bf16 := (qH d).view.read (Elt F) (D.wq o)
def halfO (d : Fin 2) (o : Dev nD) : S256x768.Idx → Elt F .bf16 := (oH d).view.read (Elt F) (D.wo o)

/-- Slot `[d, h]` of kind `t` after its landing, at share `q`. -/
def slot (t d : Fin 2) (h : Fin 3) (c : Dev nD) (q : PosShare TreeShare) : sProp 𝕄 :=
  if t = 0 then held c (qS d h) q (halfQ D d (org d h c)) else held c (oS d h) q (halfO D d (org d h c))
/-- The same slot before, at contents nobody names. -/
def hole (t d : Fin 2) (h : Fin 3) (c : Dev nD) : sProp 𝕄 :=
  if t = 0 then free (F := F) c (qS d h) else free (F := F) c (oS d h)
/-- The source of transfer `(t, d, h)` at the share lent for the flight. -/
def lent (t d : Fin 2) (h : Fin 3) (c : Dev nD) : sProp 𝕄 :=
  match h with
  | 0 => if t = 0 then (qH d).view.loc (c : Thread nD τ) ↦[(qH d).view.set]{fullShare.right} D.wq c
         else (oH d).view.loc (c : Thread nD τ) ↦[(oH d).view.set]{fullShare.right} D.wo c
  | 1 => slot D t d 0 c fullShare.right
  | 2 => slot D t d 1 c fullShare.right

/-- Device `c`'s six landing slots of direction `d`, not yet written, with its arrival semaphores ready. -/
def lane (d : Fin 2) (c : Dev nD) : sProp 𝕄 :=
  iprop(((hole (F := F) 0 d 0 c ∗ hole (F := F) 1 d 0 c) ∗ (hole (F := F) 0 d 1 c ∗ hole (F := F) 1 d 1 c) ∗ (hole (F := F) 0 d 2 c ∗ hole (F := F) 1 d 2 c))
    ∗ ((reached ER (rcvCell 0 d 0 c) 0 ∗ reached ER (rcvCell 1 d 0 c) 0) ∗ (reached ER (rcvCell 0 d 1 c) 0 ∗ reached ER (rcvCell 1 d 1 c) 0)
      ∗ (reached ER (rcvCell 0 d 2 c) 0 ∗ reached ER (rcvCell 1 d 2 c) 0)))

/-- What the two local copies hand over: the destination holding the keys (values), and the source back. -/
def copied (d : Fin 2) (c : Dev nD) : sProp 𝕄 :=
  if d = 0 then iprop((ktM.view.loc (c : Thread nD τ) ↦[ktM.view.set]{fullShare} D.kk c) ∗ (khM.view.loc (c : Thread nD τ) ↦[khM.view.set]{fullShare} D.kk c))
  else iprop((vtM.view.loc (c : Thread nD τ) ↦[vtM.view.set]{fullShare} D.vv c) ∗ (vhM.view.loc (c : Thread nD τ) ↦[vhM.view.set]{fullShare} D.vv c))

instance held_storable {sp : Space} {s : Shape} {e : EltTy} (c : Dev nD) (M : Memref sig .tc sp s e) (q : PosShare TreeShare) (X : s.Idx → Elt F e) :
    BI.Storable (upEmb : UEmb _ 𝕄) (held c M q X) := by infer_instance
instance free_storable {sp : Space} {s : Shape} {e : EltTy} (c : Dev nD) (M : Memref sig .tc sp s e) :
    BI.Storable (upEmb : UEmb _ 𝕄) (free (F := F) c M) := by infer_instance
instance slot_storable (t d h c q) : BI.Storable (upEmb : UEmb _ 𝕄) (slot D t d h c q) := by unfold slot; split; exacts [held_storable _ _ _ _, held_storable _ _ _ _]
instance hole_storable (t d h c) : BI.Storable (upEmb : UEmb _ 𝕄) (hole (F := F) t d h c) := by unfold hole; split; exacts [free_storable _ _, free_storable _ _]
instance lent_storable (t d h c) : BI.Storable (upEmb : UEmb _ 𝕄) (lent D t d h c) := by
  unfold lent; split <;> first | infer_instance | (split <;> infer_instance)
instance lane_storable (d c) : BI.Storable (upEmb : UEmb _ 𝕄) (lane (F := F) d c) := by unfold lane; infer_instance
instance copied_storable (d c) : BI.Storable (upEmb : UEmb _ 𝕄) (copied D d c) := by unfold copied; split <;> infer_instance

/-! ## The schedule -/

/-- The payload of a transfer semaphore. -/
def xferPay (r : Fin 2 × Bool × Fin 2 × Fin 3) (c : Dev nD) : sProp 𝕄 :=
  if r.2.1 then slot D r.1 r.2.2.1 r.2.2.2 c fullShare else lent D r.1 r.2.2.1 r.2.2.2 c

instance xferPay_storable (r c) : BI.Storable (upEmb : UEmb _ 𝕄) (xferPay D r c) := by unfold xferPay; split <;> infer_instance

/-- One round per cell. The barrier's two duties are named by the direction that the handed slots serve; a transfer
    semaphore has the one duty 0; the local copies' semaphore has duty 0 (keys) and duty 1 (values). -/
def rd : Rounds.Schedule (GSem nD τ sig) (Fin 2) 𝕄 where
  duties g r := if r = 0 ∧ g.1.2 = .tc then (match g.2 with | .reg _ => Finset.univ | .dma i => if i = kvS then Finset.univ else if 4 ≤ i.val then {0} else ∅) else ∅
  unitless _ := False
  amount g _ _ := match g.2 with | .reg _ => 1 | .dma i => if i = kvS then NK else amt (role i).1
  payload g _ d := match g.2 with | .reg _ => lane d (nbr d g.1.1) | .dma i => if i = kvS then copied D d g.1.1 else xferPay D (role i) g.1.1
  amount_pos g _ _ _ := by
    rcases g with ⟨_, _ | i⟩
    · exact Nat.one_pos
    · dsimp only; split; exacts [NK_pos, amt_pos _]

instance rd_payload_storable (g : GSem nD τ sig) (r : ℕ) (d : Fin 2) : BI.Storable (upEmb : UEmb _ 𝕄) ((rd (F := F) D).payload g r d) := by
  rcases g with ⟨_, _ | i⟩
  · show BI.Storable upEmb (lane (F := F) _ _); infer_instance
  · show BI.Storable upEmb (if i = kvS then copied D d _ else xferPay D (role i) _); split <;> infer_instance

section Sched
variable (c : Dev nD) (t d : Fin 2) (h : Fin 3)

theorem snd_ne_kv : sndS t d h ≠ kvS := by revert t d h; decide
theorem rcv_ne_kv : rcvS t d h ≠ kvS := by revert t d h; decide
theorem four_le_snd : 4 ≤ (sndS t d h).val := by revert t d h; decide
theorem four_le_rcv : 4 ≤ (rcvS t d h).val := by revert t d h; decide

theorem duties_bar : (rd D).duties (barCell c) 0 = Finset.univ := by dsimp only [rd]; exact if_pos ⟨rfl, rfl⟩
theorem duties_kv : (rd D).duties (kvCell c) 0 = Finset.univ := by dsimp only [rd]; rw [if_pos ⟨rfl, rfl⟩, if_pos rfl]
theorem duties_snd : (rd D).duties (sndCell t d h c) 0 = {0} := by
  dsimp only [rd]; rw [if_pos ⟨rfl, rfl⟩, if_neg (snd_ne_kv t d h)]; exact if_pos (four_le_snd t d h)
theorem duties_rcv : (rd D).duties (rcvCell t d h c) 0 = {0} := by
  dsimp only [rd]; rw [if_pos ⟨rfl, rfl⟩, if_neg (rcv_ne_kv t d h)]; exact if_pos (four_le_rcv t d h)
theorem duties_later (g : GSem nD τ sig) : ∀ r, 1 ≤ r → (rd D).duties g r = ∅ := fun r hr => by dsimp only [rd]; exact if_neg fun h => by omega

theorem amount_bar (e : Fin 2) : (rd D).amount (barCell c) 0 e = 1 := rfl
theorem amount_kv (e : Fin 2) : (rd D).amount (kvCell c) 0 e = NK := by dsimp only [rd]; exact if_pos rfl
theorem amount_snd (e : Fin 2) : (rd D).amount (sndCell t d h c) 0 e = amt t := by dsimp only [rd]; rw [if_neg (snd_ne_kv t d h), role_snd]
theorem amount_rcv (e : Fin 2) : (rd D).amount (rcvCell t d h c) 0 e = amt t := by dsimp only [rd]; rw [if_neg (rcv_ne_kv t d h), role_rcv]

theorem expect_bar : (rd D).expect (barCell c) 0 = 2 := by
  unfold Schedule.expect Schedule.amountOf
  rw [duties_bar, Finset.sum_congr rfl fun e _ => amount_bar D c e, Finset.sum_const, Finset.card_univ, Fintype.card_fin, smul_eq_mul]
theorem expect_kv : (rd D).expect (kvCell c) 0 = NK + NK := by
  unfold Schedule.expect Schedule.amountOf
  rw [duties_kv, Finset.sum_congr rfl fun e _ => amount_kv D c e, Finset.sum_const, Finset.card_univ, Fintype.card_fin, smul_eq_mul, two_mul]
theorem expect_snd : (rd D).expect (sndCell t d h c) 0 = amt t := by
  unfold Schedule.expect Schedule.amountOf; rw [duties_snd, Finset.sum_singleton, amount_snd]
theorem expect_rcv : (rd D).expect (rcvCell t d h c) 0 = amt t := by
  unfold Schedule.expect Schedule.amountOf; rw [duties_rcv, Finset.sum_singleton, amount_rcv]

theorem payload_bar (e : Fin 2) : (rd D).payload (barCell c) 0 e = lane e (nbr e c) := rfl
theorem payload_kv (e : Fin 2) : (rd D).payload (kvCell c) 0 e = copied D e c := by dsimp only [rd]; exact if_pos rfl
theorem payload_snd (e : Fin 2) : (rd D).payload (sndCell t d h c) 0 e = lent D t d h c := by
  dsimp only [rd]; rw [if_neg (snd_ne_kv t d h), role_snd]; rfl
theorem payload_rcv (e : Fin 2) : (rd D).payload (rcvCell t d h c) 0 e = slot D t d h c fullShare := by
  dsimp only [rd]; rw [if_neg (rcv_ne_kv t d h), role_rcv]; rfl

theorem bigSep_two (Φ : Fin 2 → sProp 𝕄) : bigSep Finset.univ Φ = iprop(Φ 0 ∗ Φ 1) := BI.bigSep_fin_two Φ

theorem rest_bar : bigSep ((rd D).duties (barCell c) 0 \ ∅) (fun e => (rd D).payload (barCell c) 0 e) = iprop(lane 0 (nbr 0 c) ∗ lane 1 (nbr 1 c)) := by
  rw [Finset.sdiff_empty, duties_bar, bigSep_two, payload_bar, payload_bar]
theorem rest_snd : bigSep ((rd D).duties (sndCell t d h c) 0 \ ∅) (fun e => (rd D).payload (sndCell t d h c) 0 e) = lent D t d h c := by
  rw [Finset.sdiff_empty, duties_snd, bigSep_singleton, payload_snd]
theorem rest_rcv : bigSep ((rd D).duties (rcvCell t d h c) 0 \ ∅) (fun e => (rd D).payload (rcvCell t d h c) 0 e) = slot D t d h c fullShare := by
  rw [Finset.sdiff_empty, duties_rcv, bigSep_singleton, payload_rcv]

end Sched

/-! ## What a device owes, and the levels -/

/-- The transfers in the order they are started: hop by hop, direction 0 then 1, query then output weights. -/
abbrev tOf (j : Fin 12) : Fin 2 := ⟨j.val % 2, Nat.mod_lt _ (by decide)⟩
abbrev dOf (j : Fin 12) : Fin 2 := ⟨j.val / 2 % 2, Nat.mod_lt _ (by decide)⟩
set_option backward.proofsInPublic true in
abbrev hOf (j : Fin 12) : Fin 3 := ⟨j.val / 4, by omega⟩

/-- What transfer `j` will pay at the neighbour. -/
def dueX (c : Dev nD) (j : Fin 12) : CellTallies nD τ sig Unit := tallyAt (rcvCell (tOf j) (dOf j) (hOf j) (nbr (dOf j) c)) () (amt (tOf j))
/-- Owed with transfers `0 … j - 1` started. -/
def owed (c : Dev nD) (j : ℕ) : CellTallies nD τ sig Unit :=
  ∑ i ∈ Finset.univ.filter fun i : Fin 12 => j ≤ i.val, dueX c i

theorem owed_succ (c : Dev nD) (j : Fin 12) : owed c j.val = owed c (j.val + 1) + dueX c j := by
  unfold owed
  rw [show (Finset.univ.filter fun i : Fin 12 => j.val ≤ i.val) = insert j (Finset.univ.filter fun i : Fin 12 => j.val + 1 ≤ i.val) from by
    ext i; simp only [Finset.mem_filter, Finset.mem_univ, true_and, Finset.mem_insert, Fin.ext_iff]; omega]
  rw [Finset.sum_insert (by simp), add_comm]
theorem owed_end (c : Dev nD) : owed c 12 = 0 := by
  unfold owed
  rw [show (Finset.univ.filter fun i : Fin 12 => 12 ≤ i.val) = ∅ from by decide, Finset.sum_empty]

/-- After the first signal; at launch. -/
def owed₁ (c : Dev nD) : CellTallies nD τ sig Unit := owed c 0 + tallyAt (barCell (nbr 0 c)) () 1
def owed₀ (c : Dev nD) : CellTallies nD τ sig Unit := owed₁ c + tallyAt (barCell (nbr 1 c)) () 1

def L (g : GSem nD τ sig) : Finset Unit := if g.1.2 = .tc then {()} else ∅
/-- Barrier 1, the arrival of hop `h` at `2 + h`, everything else 0. -/
def lv (g : GSem nD τ sig) (_ : Unit) : ℕ :=
  match g.2 with
  | .reg _ => 1
  | .dma i => if i = kvS ∨ i.val < 4 then 0 else if (role i).2.1 then 2 + (role i).2.2.2.val else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (t d h) (c : Dev nD) : lv (rcvCell t d h c) () = 2 + h.val := by revert t d h; dsimp only [lv]; decide
theorem lv_snd (t d h) (c : Dev nD) : lv (sndCell t d h c) () = 0 := by revert t d h; dsimp only [lv]; decide

theorem owed_pos {c : Dev nD} {j : ℕ} {g : GSem nD τ sig} {u : Unit} (h : 0 < owed c j g u) :
    ∃ i : Fin 12, j ≤ i.val ∧ g = rcvCell (tOf i) (dOf i) (hOf i) (nbr (dOf i) c) := by
  unfold owed at h
  rw [Finset.sum_apply, Finsupp.finsetSum_apply] at h
  obtain ⟨i, hi, hp⟩ := Finset.exists_ne_zero_of_sum_ne_zero h.ne'
  refine ⟨i, (Finset.mem_filter.mp hi).2, ?_⟩
  by_contra hne
  exact hp (by unfold dueX; rw [tallyAt_apply, if_neg fun h' => hne h'.1])

theorem owed₀_pos {c : Dev nD} {g : GSem nD τ sig} {u : Unit} (h : 0 < owed₀ c g u) :
    (∃ i : Fin 12, g = rcvCell (tOf i) (dOf i) (hOf i) (nbr (dOf i) c)) ∨ g = barCell (nbr 0 c) ∨ g = barCell (nbr 1 c) := by
  unfold owed₀ owed₁ at h
  rw [Pi.add_apply, Finsupp.add_apply, Pi.add_apply, Finsupp.add_apply, tallyAt_apply, tallyAt_apply] at h
  by_contra hn; rw [not_or, not_or] at hn
  rw [if_neg (fun h' => hn.2.1 h'.1), if_neg (fun h' => hn.2.2 h'.1)] at h
  simp only [Nat.add_zero] at h
  obtain ⟨i, -, hi⟩ := owed_pos h
  exact hn.1 ⟨i, hi⟩

/-- A wait on semaphore `sm` is allowed while the transfers from `j` on are owed, when its level is below theirs. -/
theorem mayWait_owed (c : Dev nD) (sm : SemLoc sig) (j : ℕ) (hj : ∀ i : Fin 12, j ≤ i.val → lv ((c : Thread nD τ), sm) () < 2 + (hOf i).val) :
    (levAts L lv : sProp 𝕄) ⊢ MayWait (c : Thread nD τ) sm () (owed c j) :=
  MayOwe.of_cut (L := L) (lev := lv) (lv ((c : Thread nD τ), sm) ()) (fun p hp => by rw [Finset.mem_singleton.mp hp, L_tc]; exact Finset.mem_singleton_self _)
    (fun g u hg => by obtain ⟨i, -, rfl⟩ := owed_pos hg; rw [L_tc]; exact Finset.mem_singleton_self _)
    (fun p hp => by rw [Finset.mem_singleton.mp hp])
    (fun g u hg => by obtain ⟨i, hi, rfl⟩ := owed_pos hg; rw [lv_rcv]; exact hj i hi)

end Cert.KernelIdeal.Ring

end
-- ==== Proof.KernelIdeal.Comm.lean ====
/-
# The statements that talk, one lemma each

A transfer `(t, d, h)` goes through four stages on the device that starts it and waits for its namesake: ready to start,
started, arrived, over. Each lemma here takes one statement of the body from one stage to the next.
-/
module

public import proofs.«01_k».proof.Proof.KernelIdeal.Schedule
public import Idealize.ShloMosaic.Lib.VecWindow

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (D : Data F) (κ : GSem nD τ sig → ℕ)

/-! ## The cells and their invariants -/

/-- The kernel's own semaphores. -/
abbrev osem (k : Fin 25) : SemLoc sig := .dma ⟨4 + k.val, by have := k.2; show 4 + k.val < 29; omega⟩
theorem osem_inj : Function.Injective osem := fun a b h => by
  have h' := congrArg Fin.val (SemLoc.dma.inj h); exact Fin.ext (Nat.add_left_cancel h')

abbrev barEmb : Dev nD ↪ GSem nD τ sig := ⟨barCell, fun a b h => by simpa using congrArg (fun g => g.1.1) h⟩
abbrev ownEmb : Dev nD × Fin 25 ↪ GSem nD τ sig :=
  ⟨fun p => ((p.1 : Thread nD τ), osem p.2), fun a b h => Prod.ext (by simpa using congrArg (fun g => g.1.1) h) (osem_inj (congrArg Prod.snd h))⟩
abbrev barCells : Finset (GSem nD τ sig) := Finset.univ.map barEmb
abbrev ownCells : Finset (GSem nD τ sig) := Finset.univ.map ownEmb

theorem mem_bar (c : Dev nD) : barCell c ∈ (barCells ∪ ownCells : Finset (GSem nD τ sig)) :=
  Finset.mem_union_left _ (Finset.mem_map.mpr ⟨c, Finset.mem_univ _, rfl⟩)
theorem mem_own (c : Dev nD) (k : Fin 25) : ((c : Thread nD τ), osem k) ∈ (barCells ∪ ownCells : Finset (GSem nD τ sig)) :=
  Finset.mem_union_right _ (Finset.mem_map.mpr ⟨(c, k), Finset.mem_univ _, rfl⟩)
theorem mem_dma (c : Dev nD) (i : DmaSem sig) (hi : 4 ≤ i.val) : ((c : Thread nD τ), SemLoc.dma i) ∈ (barCells ∪ ownCells : Finset (GSem nD τ sig)) := by
  have h29 : i.val < 29 := i.2
  have h := mem_own c ⟨i.val - 4, by omega⟩
  rwa [show osem ⟨i.val - 4, by omega⟩ = SemLoc.dma i from congrArg SemLoc.dma (Fin.ext (by show 4 + (i.val - 4) = i.val; omega))] at h
theorem mem_snd (t d : Fin 2) (h : Fin 3) (c : Dev nD) : sndCell t d h c ∈ (barCells ∪ ownCells : Finset (GSem nD τ sig)) := mem_dma c _ (four_le_snd t d h)
theorem mem_rcv (t d : Fin 2) (h : Fin 3) (c : Dev nD) : rcvCell t d h c ∈ (barCells ∪ ownCells : Finset (GSem nD τ sig)) := mem_dma c _ (four_le_rcv t d h)
theorem mem_kv (c : Dev nD) : kvCell c ∈ (barCells ∪ ownCells : Finset (GSem nD τ sig)) := mem_dma c _ (by decide)

/-- What every device may consult: all cells' invariants, under one map of names. -/
def recs : sProp 𝕄 := bigSep (barCells ∪ ownCells) fun g => cellInv ER (rd D) (κ g) g
instance recs_persistent : BI.Persistent (recs D κ) := by unfold recs; infer_instance
theorem inv_at {g : GSem nD τ sig} (hg : g ∈ (barCells ∪ ownCells : Finset (GSem nD τ sig))) : recs D κ ⊢ cellInv ER (rd D) (κ g) g := by
  unfold recs; exact bigSep_elim hg

/-! ## What a device holds of its transfers -/

section Stages
variable (t d : Fin 2) (h : Fin 3) (c : Dev nD)

/-- At launch: the tokens of both ends, the positions, the credit for the arrival. -/
def flightA : sProp 𝕄 :=
  iprop((dutyTok ER (sndCell t d h c) 0 0 ∗ dutyTok ER (rcvCell t d h (nbr d c)) 0 0) ∗ atPos ER (sndCell t d h c) 0 ∅ 0 ∗ atPos ER (rcvCell t d h c) 0 ∅ 0
    ∗ cred (tallyAt (rcvCell t d h c) () (amt t)) ∗ reached ER (sndCell t d h c) 0)
/-- Ready to start: the neighbour's slot is at hand. -/
def flightB : sProp 𝕄 := iprop(flightA t d h c ∗ hole t d h (nbr d c) ∗ reached ER (rcvCell t d h (nbr d c)) 0)
/-- Started. -/
def flightC : sProp 𝕄 :=
  iprop(atPos ER (sndCell t d h c) 0 ∅ 0 ∗ cred (tallyAt (sndCell t d h c) () (amt t)) ∗ atPos ER (rcvCell t d h c) 0 ∅ 0 ∗ cred (tallyAt (rcvCell t d h c) () (amt t)))
/-- Its namesake has arrived. -/
def flightD : sProp 𝕄 :=
  iprop(atPos ER (sndCell t d h c) 0 ∅ 0 ∗ cred (tallyAt (sndCell t d h c) () (amt t)) ∗ atPos ER (rcvCell t d h c) (0 + 1) ∅ 0)
/-- Over. -/
def flightE : sProp 𝕄 := iprop(atPos ER (sndCell t d h c) (0 + 1) ∅ 0 ∗ atPos ER (rcvCell t d h c) (0 + 1) ∅ 0)

/-- What is owed with transfers `0 … j - 1` started, whatever has been waited for. -/
def ow (j : ℕ) : sProp 𝕄 := iprop(∃ W, owes (c : Thread nD τ) (owed c j) W)

end Stages

/-! ## The statements -/

section Ops
variable {α : Type} {Q : α → sProp (MT nD τ sig Unit (Elt F) ℕ UU ℕ)} {k : PUnit.{1} → Prog (TpuEff nD τ sig (Elt F) Λ₀ .tc) α}

/-- A landing is what the landed memref reads. -/
theorem landed_rep {s : Shape} (c : Dev nD) (dst : Memref sig .tc .vmem s .bf16) (fd : Buf (Elt F) (dst.view.loc (c : Thread nD τ))) (X : s.Idx → Elt F .bf16) :
    (dst.view.loc (c : Thread nD τ) ↦[dst.view.set]{fullShare} dst.view.write (Elt F) fd X Finset.univ : sProp 𝕄) ⊢ held c dst fullShare X :=
  pointsTo_rep_of_read (c : Thread nD τ) dst _ fullShare X (View.read_write_univ _ _)

/-- A transfer started. -/
theorem wp_send (t d : Fin 2) (h : Fin 3) (c n : Dev nD) (hn : n = nbr d c) (j : ℕ) (hO : owed c j = owed c (j + 1) + tallyAt (rcvCell t d h (nbr d c)) () (amt t))
    {s : Shape} {src : Memref sig .tc .vmem s .bf16} {dst : Memref sig (Dev.tc n : Thread nD τ).2.kind .vmem s .bf16}
    {hsc : dst.view.ref.isScScratch = false}
    {hsrc : src.view.WordExact} {hdst : dst.view.WordExact}
    {hsem : DmaTarget.Typed .vmem (.dma (rcvS t d h)) (.remote (Dev.tc n : Thread nD τ) dst (.dma (sndS t d h)) hsc)}
    (fs : Buf (Elt F) (src.view.loc (c : Thread nD τ))) (hN : dst.view.amount (.dma (rcvS t d h)) = amt t)
    (hl : lent D t d h c = (src.view.loc (c : Thread nD τ) ↦[src.view.set]{fullShare.right} fs))
    (hh : hole t d h (nbr d c) = free (F := F) (nbr d c) dst)
    (hs : slot D t d h (nbr d c) fullShare = held (nbr d c) dst fullShare (src.view.read (Elt F) fs)) :
    iprop(recs D κ ∗ flightB t d h c ∗ (src.view.loc (c : Thread nD τ) ↦[src.view.set]{fullShare.right} fs) ∗ ow c j)
      ⊢ iprop(((flightC t d h c ∗ ow c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sndS t d h)) hsc) (.dma (rcvS t d h)) hsrc hdst hsem) k) Q) := by
  subst hn
  unfold flightB flightA ow
  rw [hh]
  iintro ⟨#HI, ⟨⟨⟨HtS, HtR⟩, HaS, HaR, HcR, #HrS⟩, ⟨%fd, Hd⟩, #HrR⟩, Hs, ⟨%W, HO⟩⟩ Hk
  iapply (Rounds.wp_send_pointsTo 𝒱₀ ER (rd D) (c : Thread nD τ) none (κ₁ := κ (sndCell t d h c)) (κ₂ := κ (rcvCell t d h (nbr d c)))
    (r₁ := 0) (r₂ := 0) (d₁ := 0) (d₂ := 0) (fd := fd)
    (by rw [duties_snd]; exact Finset.mem_singleton_self _) (by rw [duties_rcv]; exact Finset.mem_singleton_self _)
    () () (amt t) hN (amount_snd D c t d h 0) (amount_rcv D (nbr d c) t d h 0) (owed c (j + 1)) hO (W := W)
    (by rw [payload_snd, hl]) (by rw [payload_rcv, hs]; exact landed_rep (nbr d c) dst fd _)) $$ [Hs Hd HO HtS HtR]
  · isplitr; · iapply (inv_at D κ (mem_snd t d h c)); iexact HI
    isplitr; · iapply (inv_at D κ (mem_rcv t d h (nbr d c))); iexact HI
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  unfold flightC
  isplitr [HO]
  · isplitl [HaS]; · iexact HaS
    isplitl [HcS]; · iexact HcS
    isplitl [HaR]; · iexact HaR
    iexact HcR
  iexists W; iexact HO

/-- A wait for a transfer's arrival. -/
theorem wp_arrive (t d : Fin 2) (h : Fin 3) (c : Dev nD) (j : ℕ) (hj : ∀ i : Fin 12, j ≤ i.val → h.val < (hOf i).val)
    {s : Shape} {src dst : Memref sig .tc .vmem s .bf16} {hsrc : src.view.WordExact} {hdst : dst.view.WordExact} (hN : dst.view.dmaCredit = amt t) :
    iprop(recs D κ ∗ levAts L lv ∗ flightC t d h c ∗ ow c j)
      ⊢ iprop(((flightD t d h c ∗ slot D t d h c fullShare ∗ ow c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS t d h) src dst hsrc hdst) k) Q) := by
  unfold flightC ow
  iintro ⟨#HI, #Hlev, ⟨HaS, HcS, HaR, HcR⟩, ⟨%W, HO⟩⟩ Hk
  iapply (Rounds.wp_wait_rest_token 𝒱₀ ER (rd D) (c : Thread nD τ) none (κ := κ (rcvCell t d h c))
      (wpE_waitDma2_eq 𝒱₀ (c : Thread nD τ) none Set.univ) (Set.mem_univ _) () (O := owed c j) (W := W) (R := 0) (m := 0) (T := ∅)
      (by rw [Nat.zero_add, hN, expect_rcv])) $$ [HcR HO HaR]
  · isplitr; · iapply (inv_at D κ (mem_rcv t d h c)); iexact HI
    isplitl [HcR]; · rw [hN]; iexact HcR
    isplitl [HO]; · iexact HO
    isplitr
    · iapply (mayWait_owed c (.dma (rcvS t d h)) j (fun i hi => by rw [lv_rcv]; have := hj i hi; omega)); iexact Hlev
    iexact HaR
  iintro ⟨HO, HaR, -, Hpay⟩
  iapply Hk
  unfold flightD
  isplitl [HaS HcS HaR]
  · isplitl [HaS]; · iexact HaS
    isplitl [HcS]; · iexact HcS
    iexact HaR
  isplitl [Hpay]
  · iapply (Entails.of_eq (rest_rcv D c t d h)); iexact Hpay
  iexists _; iexact HO

/-- A wait for a transfer's departure, everything being started. -/
theorem wp_depart (t d : Fin 2) (h : Fin 3) (c : Dev nD)
    {s : Shape} {src dst : Memref sig .tc .vmem s .bf16} {hsrc : src.view.WordExact} {hdst : dst.view.WordExact} (hN : dst.view.dmaCredit = amt t) :
    iprop(recs D κ ∗ flightD t d h c ∗ ow c 12)
      ⊢ iprop(((flightE t d h c ∗ lent D t d h c ∗ ow c 12) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS t d h) src dst hsrc hdst) k) Q) := by
  unfold flightD ow
  rw [owed_end]
  iintro ⟨#HI, ⟨HaS, HcS, HaR⟩, ⟨%W, HO⟩⟩ Hk
  iapply (Rounds.wp_wait_rest_token 𝒱₀ ER (rd D) (c : Thread nD τ) none (κ := κ (sndCell t d h c))
      (wpE_waitDma2_eq 𝒱₀ (c : Thread nD τ) none Set.univ) (Set.mem_univ _) () (O := 0) (W := W) (R := 0) (m := 0) (T := ∅)
      (by rw [Nat.zero_add, hN, expect_snd])) $$ [HcS HO HaS]
  · isplitr; · iapply (inv_at D κ (mem_snd t d h c)); iexact HI
    isplitl [HcS]; · rw [hN]; iexact HcS
    isplitl [HO]; · iexact HO
    isplitr; · rw [MayWait_zero]; iempintro
    iexact HaS
  iintro ⟨HO, HaS, -, Hpay⟩
  iapply Hk
  unfold flightE
  isplitl [HaS HaR]
  · isplitl [HaS]; · iexact HaS
    iexact HaR
  isplitl [Hpay]
  · iapply (Entails.of_eq (rest_snd D c t d h)); iexact Hpay
  iexists _; iexact HO

/-! ### The barrier -/

/-- A signal to the neighbour in direction `opp d`: it hands over the slots that the neighbour fills in direction `d`. -/
theorem wp_hand (d : Fin 2) (c n : Dev nD) (hn : n = nbr (opp d) c) (w : BitVec 32) (hw : w.toNat = 1)
    (O O' : CellTallies nD τ sig Unit) (hO : O = O' + tallyAt (barCell (nbr (opp d) c)) () 1) (W : Waits sig Unit) :
    iprop(recs D κ ∗ reached ER (barCell (nbr (opp d) c)) 0 ∗ owes (c : Thread nD τ) O W ∗ dutyTok ER (barCell (nbr (opp d) c)) 0 d ∗ lane d c)
      ⊢ iprop((owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS w.toNat) k) Q) := by
  subst hn
  iintro ⟨#HI, #Hr, HO, Ht, Hl⟩ Hk
  iapply (Rounds.wp_signal 𝒱₀ ER (rd D) (c : Thread nD τ) none (dst := (nbr (opp d) c : Thread nD τ)) (κ := κ (barCell (nbr (opp d) c)))
      (d := d) (by rw [duties_bar]; exact Finset.mem_univ _) ((amount_bar D (nbr (opp d) c) d).trans hw.symm) () O' (O₀ := O) (by rw [hw]; exact hO)) $$ [HO Ht Hl]
  · isplitr; · iapply (inv_at D κ (mem_bar (nbr (opp d) c))); iexact HI
    isplitl [HO]; · iexact HO
    isplitl [Ht]; · iexact Ht
    isplitl [Hl]
    · rw [payload_bar, nbr_opp]; iexact Hl
    · iexact Hr
  iintro HO
  iapply Hk; iexact HO

/-- The barrier's wait: both neighbours' slots are at hand. -/
theorem wp_meet (c : Dev nD) (w : BitVec 32) (hw : w.toNat = 2) (W : Waits sig Unit) :
    iprop(recs D κ ∗ levAts L lv ∗ cred (tallyAt (barCell c) () 2) ∗ owes (c : Thread nD τ) (owed c 0) W ∗ atPos ER (barCell c) 0 ∅ 0)
      ⊢ iprop(((ow c 0 ∗ atPos ER (barCell c) (0 + 1) ∅ 0 ∗ lane 0 (nbr 0 c) ∗ lane 1 (nbr 1 c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS w.toNat) k) Q) := by
  iintro ⟨#HI, #Hlev, Hc, HO, Ha⟩ Hk
  iapply (Rounds.wp_wait_rest_token 𝒱₀ ER (rd D) (c : Thread nD τ) none (κ := κ (barCell c))
      (wpE_semWait_eq 𝒱₀ (c : Thread nD τ) none Set.univ) (Set.mem_univ _) () (O := owed c 0) (W := W) (R := 0) (m := 0) (T := ∅)
      (by rw [Nat.zero_add, hw, expect_bar])) $$ [Hc HO Ha]
  · isplitr; · iapply (inv_at D κ (mem_bar c)); iexact HI
    isplitl [Hc]; · rw [hw]; iexact Hc
    isplitl [HO]; · iexact HO
    isplitr
    · iapply (mayWait_owed c (.reg barS) 0 (fun i _ => by show 1 < 2 + (hOf i).val; omega)); iexact Hlev
    iexact Ha
  iintro ⟨HO, Ha, -, Hpay⟩
  ihave Hp := (Entails.of_eq (rest_bar D c)) $$ Hpay
  icases Hp with ⟨H0, H1⟩
  iapply Hk
  isplitl [HO]; · unfold ow; iexists _; iexact HO
  isplitl [Ha]; · iexact Ha
  isplitl [H0]; · iexact H0
  iexact H1

/-! ### The local copies -/

/-- One of the two local copies, started. -/
theorem wp_fetch (e : Fin 2) (c : Dev nD) {src : Memref sig .tc .hbm S16x2x512x128 .bf16} {dst : Memref sig .tc .vmem S16x2x512x128 .bf16}
    {hsrc : src.view.WordExact} {hdst : dst.view.WordExact} {hsem : DmaTarget.Typed (nD := nD) (τ := τ) (p := (c : Thread nD τ).2) .hbm (.dma kvS) (.here dst)}
    (fs : Buf (Elt F) (src.view.loc (c : Thread nD τ))) (fd : Buf (Elt F) (dst.view.loc (c : Thread nD τ))) (hN : dst.view.amount (.dma kvS) = NK)
    (hp : copied D e c = iprop((dst.view.loc (c : Thread nD τ) ↦[dst.view.set]{fullShare} dst.view.write (Elt F) fd (src.view.read (Elt F) fs) Finset.univ)
      ∗ (src.view.loc (c : Thread nD τ) ↦[src.view.set]{fullShare} fs))) :
    iprop(recs D κ ∗ (src.view.loc (c : Thread nD τ) ↦[src.view.set]{fullShare} fs) ∗ (dst.view.loc (c : Thread nD τ) ↦[dst.view.set]{fullShare} fd)
        ∗ dutyTok ER (kvCell c) 0 e ∗ reached ER (kvCell c) 0)
      ⊢ iprop((cred (tallyAt (kvCell c) () NK) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma kvS) hsrc hdst hsem) k) Q) := by
  iintro ⟨#HI, Hs, Hd, Ht, #Hr⟩ Hk
  iapply (Rounds.wp_copy_pointsTo 𝒱₀ ER (rd D) (c : Thread nD τ) none (κ := κ (kvCell c)) (r := 0) (d := e) (fs := fs) (fd := fd)
    (by rw [duties_kv]; exact Finset.mem_univ _) () NK hN (amount_kv D c e) (by rw [payload_kv, hp])) $$ [Hs Hd Ht]
  · isplitr; · iapply (inv_at D κ (mem_kv c)); iexact HI
    isplitl [Hs]; · iexact Hs
    isplitl [Hd]; · iexact Hd
    isplitl [Ht]; · iexact Ht
    iexact Hr
  iexact Hk

/-- Between the two waits on the local copies' semaphore. -/
def halfFetched (c : Dev nD) : sProp 𝕄 :=
  iprop(∃ S : Finset (Fin 2), atPos ER (kvCell c) 0 S NK ∗ bigSep S (fun e => copied D e c) ∗ cred (tallyAt (kvCell c) () NK))

theorem wp_fetched₁ (c : Dev nD) (j : ℕ) {src : Memref sig .tc .hbm S16x2x512x128 .bf16} {dst : Memref sig .tc .vmem S16x2x512x128 .bf16}
    {hsrc : src.view.WordExact} {hdst : dst.view.WordExact} (hN : dst.view.dmaCredit = NK) :
    iprop(recs D κ ∗ levAts L lv ∗ atPos ER (kvCell c) 0 ∅ 0 ∗ cred (tallyAt (kvCell c) () NK) ∗ cred (tallyAt (kvCell c) () NK) ∗ ow c j)
      ⊢ iprop(((halfFetched D c ∗ ow c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 kvS src dst hsrc hdst) k) Q) := by
  unfold ow
  iintro ⟨#HI, #Hlev, Ha, Hc₁, Hc₂, ⟨%W, HO⟩⟩ Hk
  iapply (Rounds.wp_wait 𝒱₀ ER (rd D) (c : Thread nD τ) none (κ := κ (kvCell c))
      (wpE_waitDma2_eq 𝒱₀ (c : Thread nD τ) none Set.univ) (Set.mem_univ _) (cr := Finsupp.single () NK) (O := owed c j) (W := W) {(SemLoc.dma kvS, ())} (R := 0) (m := 0) (T := ∅)
      (by rw [Util.total_single, hN]) (image_single_subset (SemLoc.dma kvS) () NK)) $$ [Hc₁ HO Ha]
  · isplitr; · iapply (inv_at D κ (mem_kv c)); iexact HI
    isplitl [Hc₁]; · iexact Hc₁
    isplitl [HO]; · iexact HO
    isplitr
    · iapply (mayWait_owed c (.dma kvS) j (fun i _ => by show 0 < 2 + (hOf i).val; omega)); iexact Hlev
    iexact Ha
  iintro %S ⟨%hS, HO, Ha, Hp⟩
  iapply Hk
  isplitr [HO]
  · unfold halfFetched
    iexists S
    isplitl [Ha]; · rw [Nat.zero_add, hN]; iexact Ha
    isplitl [Hp]
    · iapply (show bigSep (S \ ∅) (fun e => (rd D).payload (kvCell c) 0 e) ⊢ bigSep S (fun e => copied D e c) from by
        rw [Finset.sdiff_empty]; exact bigSep_mono fun e _ => Entails.of_eq (payload_kv D c e))
      iexact Hp
    iexact Hc₂
  iexists _; iexact HO

theorem wp_fetched₂ (c : Dev nD) (j : ℕ) {src : Memref sig .tc .hbm S16x2x512x128 .bf16} {dst : Memref sig .tc .vmem S16x2x512x128 .bf16}
    {hsrc : src.view.WordExact} {hdst : dst.view.WordExact} (hN : dst.view.dmaCredit = NK) :
    iprop(recs D κ ∗ levAts L lv ∗ halfFetched D c ∗ ow c j)
      ⊢ iprop(((atPos ER (kvCell c) (0 + 1) ∅ 0 ∗ copied D 0 c ∗ copied D 1 c ∗ ow c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 kvS src dst hsrc hdst) k) Q) := by
  unfold ow halfFetched
  iintro ⟨#HI, #Hlev, ⟨%S, Ha, Hp, Hc⟩, ⟨%W, HO⟩⟩ Hk
  iapply (Rounds.wp_wait_rest_token 𝒱₀ ER (rd D) (c : Thread nD τ) none (κ := κ (kvCell c))
      (wpE_waitDma2_eq 𝒱₀ (c : Thread nD τ) none Set.univ) (Set.mem_univ _) () (O := owed c j) (W := W) (R := 0) (m := NK) (T := S)
      (by rw [hN, expect_kv])) $$ [Hc HO Ha]
  · isplitr; · iapply (inv_at D κ (mem_kv c)); iexact HI
    isplitl [Hc]; · rw [hN]; iexact Hc
    isplitl [HO]; · iexact HO
    isplitr
    · iapply (mayWait_owed c (.dma kvS) j (fun i _ => by show 0 < 2 + (hOf i).val; omega)); iexact Hlev
    iexact Ha
  iintro ⟨HO, Ha, -, Hq⟩
  ihave H2 := (show iprop(bigSep S (fun e => copied D e c) ∗ bigSep ((rd D).duties (kvCell c) 0 \ S) (fun e => (rd D).payload (kvCell c) 0 e))
      ⊢ iprop(copied D 0 c ∗ copied D 1 c) from by
    rw [duties_kv, ← bigSep_two (F := F) (fun e => copied D e c), BI.bigSep_sdiff_split (Finset.subset_univ S)]
    exact sep_mono_right (bigSep_mono fun e _ => Entails.of_eq (payload_kv D c e))) $$ [Hp Hq]
  · isplitl [Hp]; · iexact Hp
    iexact Hq
  icases H2 with ⟨H0, H1⟩
  iapply Hk
  isplitl [Ha]; · iexact Ha
  isplitl [H0]; · iexact H0
  isplitl [H1]; · iexact H1
  iexists _; iexact HO

end Ops

end Cert.KernelIdeal.Ring

end
-- ==== Proof.KernelIdeal.Parts.lean ====
/-
# The parts of the body that talk
-/
module

public import Idealize.ShloMosaic.Lib.Pipeline.ReadBack
public import proofs.«01_k».proof.Proof.KernelIdeal.Comm
public import proofs.«01_k».proof.Proof.Gen.KernelIdeal.Skeleton

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (D : Data F) (κ : GSem nD τ sig → ℕ)

/-! ## The device words -/

theorem dev1_eq (c : Dev nD) : (⟨k0_dev1 c, k0_dev1_lt c⟩ : Dev nD) = nbr (opp 0) c := by revert c; decide +kernel
theorem dev2_eq (c : Dev nD) : (⟨k0_dev2 c, k0_dev2_lt c⟩ : Dev nD) = nbr (opp 1) c := by revert c; decide +kernel
theorem dev3_eq (c : Dev nD) : (⟨k0_dev3 c, k0_dev3_lt c⟩ : Dev nD) = nbr 0 c := by revert c; decide +kernel
theorem dev4_eq (c : Dev nD) : (⟨k0_dev4 c, k0_dev4_lt c⟩ : Dev nD) = nbr 0 c := by revert c; decide +kernel
theorem dev5_eq (c : Dev nD) : (⟨k0_dev5 c, k0_dev5_lt c⟩ : Dev nD) = nbr 1 c := by revert c; decide +kernel
theorem dev6_eq (c : Dev nD) : (⟨k0_dev6 c, k0_dev6_lt c⟩ : Dev nD) = nbr 1 c := by revert c; decide +kernel
theorem dev7_eq (c : Dev nD) : (⟨k0_dev7 c, k0_dev7_lt c⟩ : Dev nD) = nbr 0 c := by revert c; decide +kernel
theorem dev8_eq (c : Dev nD) : (⟨k0_dev8 c, k0_dev8_lt c⟩ : Dev nD) = nbr 0 c := by revert c; decide +kernel
theorem dev9_eq (c : Dev nD) : (⟨k0_dev9 c, k0_dev9_lt c⟩ : Dev nD) = nbr 1 c := by revert c; decide +kernel
theorem dev10_eq (c : Dev nD) : (⟨k0_dev10 c, k0_dev10_lt c⟩ : Dev nD) = nbr 1 c := by revert c; decide +kernel
theorem dev11_eq (c : Dev nD) : (⟨k0_dev11 c, k0_dev11_lt c⟩ : Dev nD) = nbr 0 c := by revert c; decide +kernel
theorem dev12_eq (c : Dev nD) : (⟨k0_dev12 c, k0_dev12_lt c⟩ : Dev nD) = nbr 0 c := by revert c; decide +kernel
theorem dev13_eq (c : Dev nD) : (⟨k0_dev13 c, k0_dev13_lt c⟩ : Dev nD) = nbr 1 c := by revert c; decide +kernel
theorem dev14_eq (c : Dev nD) : (⟨k0_dev14 c, k0_dev14_lt c⟩ : Dev nD) = nbr 1 c := by revert c; decide +kernel

/-! ## The body's own arguments -/

abbrev xM : Memref sig .tc .vmem S2x512x768 .f32 := Memref.whole cc0_stg0_0
abbrev wM : Memref sig .tc .vmem S768x512 .f32 := Memref.whole cc0_stg1_0
abbrev vM : Memref sig .tc .vmem S512x768 .f32 := Memref.whole cc0_stg2_0
abbrev yM : Memref sig .tc .vmem S2x512x768 .f32 := Memref.whole cc0_stg3_0

/-- A part of the body, called with the body's arguments. -/
abbrev onArgs {β : Type 1} (f : (arg0 : Memref sig .tc .vmem S2x512x768 .f32) → (harg0 : arg0.IsWhole) → (arg1 : Memref sig .tc .vmem S768x512 .f32) → (harg1 : arg1.IsWhole)
    → (arg2 : Memref sig .tc .hbm S16x2x512x128 .bf16) → (harg2 : arg2.IsWhole) → (arg3 : Memref sig .tc .hbm S16x2x512x128 .bf16) → (harg3 : arg3.IsWhole)
    → (arg4 : Memref sig .tc .vmem S512x768 .f32) → (harg4 : arg4.IsWhole) → (arg5 : Memref sig .tc .vmem S2x512x768 .f32) → (harg5 : arg5.IsWhole)
    → (arg6 : Memref sig .tc .vmem S768x512 .bf16) → (harg6 : arg6.IsWhole) → (arg7 : Memref sig .tc .vmem S512x768 .bf16) → (harg7 : arg7.IsWhole)
    → (arg8 : Memref sig .tc .vmem S16x2x512x128 .bf16) → (harg8 : arg8.IsWhole) → (arg9 : Memref sig .tc .vmem S16x2x512x128 .bf16) → (harg9 : arg9.IsWhole)
    → (arg10 : Memref sig .tc .vmem S2x3x768x256 .bf16) → (harg10 : arg10.IsWhole) → (arg11 : Memref sig .tc .vmem S2x3x256x768 .bf16) → (harg11 : arg11.IsWhole)
    → (arg12 : DmaSems sig S2x3) → (arg13 : DmaSems sig S2x3) → (arg14 : DmaSems sig S2x3) → (arg15 : DmaSems sig S2x3) → (arg16 : DmaSems sig S_) → β) : β :=
  f xM (Memref.isWhole_whole _) wM (Memref.isWhole_whole _) khM (Memref.isWhole_whole _) vhM (Memref.isWhole_whole _) vM (Memref.isWhole_whole _) yM (Memref.isWhole_whole _)
    wqM (Memref.isWhole_whole _) woM (Memref.isWhole_whole _) ktM (Memref.isWhole_whole _) vtM (Memref.isWhole_whole _) qcM (Memref.isWhole_whole _) ocM (Memref.isWhole_whole _)
    cc0_scratch6 cc0_scratch7 cc0_scratch8 cc0_scratch9 cc0_scratch10

/-! ## Transfers of the two kinds -/

theorem slot_q (d : Fin 2) (h : Fin 3) (c : Dev nD) (q : PosShare TreeShare) : slot D 0 d h c q = held c (qS d h) q (halfQ D d (org d h c)) := if_pos rfl
theorem slot_o (d : Fin 2) (h : Fin 3) (c : Dev nD) (q : PosShare TreeShare) : slot D 1 d h c q = held c (oS d h) q (halfO D d (org d h c)) :=
  if_neg (by decide)
theorem hole_q (d : Fin 2) (h : Fin 3) (c : Dev nD) : hole (F := F) 0 d h c = free c (qS d h) := if_pos rfl
theorem hole_o (d : Fin 2) (h : Fin 3) (c : Dev nD) : hole (F := F) 1 d h c = free c (oS d h) := if_neg (by decide)
theorem lent_q0 (d : Fin 2) (c : Dev nD) :
    lent D 0 d 0 c = ((qH d).view.loc (c : Thread nD τ) ↦[(qH d).view.set]{fullShare.right} D.wq c) := by
  simp only [lent, if_pos]
theorem lent_o0 (d : Fin 2) (c : Dev nD) :
    lent D 1 d 0 c = ((oH d).view.loc (c : Thread nD τ) ↦[(oH d).view.set]{fullShare.right} D.wo c) := by
  simp only [lent]
  exact if_neg (by decide)
theorem landed_q0 (d : Fin 2) (c : Dev nD) :
    slot D 0 d 0 (nbr d c) fullShare = held (nbr d c) (qS d 0) fullShare ((qH d).view.read (Elt F) (D.wq c)) := by
  rw [slot_q, org_nbr_zero]; rfl
theorem landed_o0 (d : Fin 2) (c : Dev nD) :
    slot D 1 d 0 (nbr d c) fullShare = held (nbr d c) (oS d 0) fullShare ((oH d).view.read (Elt F) (D.wo c)) := by
  rw [slot_o, org_nbr_zero]; rfl
theorem amount_q (d : Fin 2) (h : Fin 3) : (qS d h).view.amount (.dma (rcvS 0 d h)) = amt 0 := rfl
theorem amount_o (d : Fin 2) (h : Fin 3) : (oS d h).view.amount (.dma (rcvS 1 d h)) = amt 1 := rfl

section Ops
variable {α : Type} {Q : α → sProp (MT nD τ sig Unit (Elt F) ℕ UU ℕ)} {k : PUnit.{1} → Prog (TpuEff nD τ sig (Elt F) Λ₀ .tc) α}

/-- The first hop of a half of the query weights. -/
theorem send_q0 (d : Fin 2) (c n : Dev nD) (hn : n = nbr d c) (j : ℕ) (hO : owed c j = owed c (j + 1) + tallyAt (rcvCell 0 d 0 (nbr d c)) () (amt 0))
    {hsc : (qS d 0).view.ref.isScScratch = false} {hsrc : (qH d).view.WordExact} {hdst : (qS d 0).view.WordExact}
    {hsem : DmaTarget.Typed .vmem (.dma (rcvS 0 d 0)) (.remote (Dev.tc n : Thread nD τ) (qS d 0) (.dma (sndS 0 d 0)) hsc)} :
    iprop(recs D κ ∗ flightB 0 d 0 c ∗ lent D 0 d 0 c ∗ ow c j)
      ⊢ iprop(((flightC 0 d 0 c ∗ ow c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (qH d) (.remote (Dev.tc n : Thread nD τ) (qS d 0) (.dma (sndS 0 d 0)) hsc) (.dma (rcvS 0 d 0)) hsrc hdst hsem) k) Q) :=
  wp_send D κ 0 d 0 c n hn j hO (src := qH d) (dst := qS d 0) (D.wq c) (amount_q d 0) (lent_q0 D d c) (hole_q d 0 _) (landed_q0 D d c)
theorem send_o0 (d : Fin 2) (c n : Dev nD) (hn : n = nbr d c) (j : ℕ) (hO : owed c j = owed c (j + 1) + tallyAt (rcvCell 1 d 0 (nbr d c)) () (amt 1))
    {hsc : (oS d 0).view.ref.isScScratch = false} {hsrc : (oH d).view.WordExact} {hdst : (oS d 0).view.WordExact}
    {hsem : DmaTarget.Typed .vmem (.dma (rcvS 1 d 0)) (.remote (Dev.tc n : Thread nD τ) (oS d 0) (.dma (sndS 1 d 0)) hsc)} :
    iprop(recs D κ ∗ flightB 1 d 0 c ∗ lent D 1 d 0 c ∗ ow c j)
      ⊢ iprop(((flightC 1 d 0 c ∗ ow c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oH d) (.remote (Dev.tc n : Thread nD τ) (oS d 0) (.dma (sndS 1 d 0)) hsc) (.dma (rcvS 1 d 0)) hsrc hdst hsem) k) Q) :=
  wp_send D κ 1 d 0 c n hn j hO (src := oH d) (dst := oS d 0) (D.wo c) (amount_o d 0) (lent_o0 D d c) (hole_o d 0 _) (landed_o0 D d c)

/-- The hop before `h`, and that a hop continues the one before it. -/
theorem org_next (d : Fin 2) (h h' : Fin 3) (hh : h.val = h'.val + 1) (c : Dev nD) : org d h (nbr d c) = org d h' c := by
  revert d h h' c; decide
theorem lent_next (t d : Fin 2) (h h' : Fin 3) (hh : h.val = h'.val + 1) (c : Dev nD) : lent D t d h c = slot D t d h' c fullShare.right := by
  obtain ⟨h, hlt⟩ := h; obtain ⟨h', hlt'⟩ := h'
  dsimp only at hh; subst hh
  match h', hlt, hlt' with
  | 0, _, _ => rfl
  | 1, _, _ => rfl
  | (n + 2), hlt, _ => exact absurd hlt (by omega)

/-- A later hop. -/
theorem send_q (d : Fin 2) (h h' : Fin 3) (hh : h.val = h'.val + 1) (c n : Dev nD) (hn : n = nbr d c) (j : ℕ)
    (hO : owed c j = owed c (j + 1) + tallyAt (rcvCell 0 d h (nbr d c)) () (amt 0))
    {hsc : (qS d h).view.ref.isScScratch = false} {hsrc : (qS d h').view.WordExact} {hdst : (qS d h).view.WordExact}
    {hsem : DmaTarget.Typed .vmem (.dma (rcvS 0 d h)) (.remote (Dev.tc n : Thread nD τ) (qS d h) (.dma (sndS 0 d h)) hsc)} :
    iprop(recs D κ ∗ flightB 0 d h c ∗ held c (qS d h') fullShare.right (halfQ D d (org d h' c)) ∗ ow c j)
      ⊢ iprop(((flightC 0 d h c ∗ ow c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (qS d h') (.remote (Dev.tc n : Thread nD τ) (qS d h) (.dma (sndS 0 d h)) hsc) (.dma (rcvS 0 d h)) hsrc hdst hsem) k) Q) :=
  wp_send D κ 0 d h c n hn j hO _ (amount_q d h) ((lent_next D 0 d h h' hh c).trans (slot_q D d h' c _)) (hole_q d h _)
    (by rw [slot_q, org_next d h h' hh, View.read_rep])
theorem send_o (d : Fin 2) (h h' : Fin 3) (hh : h.val = h'.val + 1) (c n : Dev nD) (hn : n = nbr d c) (j : ℕ)
    (hO : owed c j = owed c (j + 1) + tallyAt (rcvCell 1 d h (nbr d c)) () (amt 1))
    {hsc : (oS d h).view.ref.isScScratch = false} {hsrc : (oS d h').view.WordExact} {hdst : (oS d h).view.WordExact}
    {hsem : DmaTarget.Typed .vmem (.dma (rcvS 1 d h)) (.remote (Dev.tc n : Thread nD τ) (oS d h) (.dma (sndS 1 d h)) hsc)} :
    iprop(recs D κ ∗ flightB 1 d h c ∗ held c (oS d h') fullShare.right (halfO D d (org d h' c)) ∗ ow c j)
      ⊢ iprop(((flightC 1 d h c ∗ ow c (j + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS d h') (.remote (Dev.tc n : Thread nD τ) (oS d h) (.dma (sndS 1 d h)) hsc) (.dma (rcvS 1 d h)) hsrc hdst hsem) k) Q) :=
  wp_send D κ 1 d h c n hn j hO _ (amount_o d h) ((lent_next D 1 d h h' hh c).trans (slot_o D d h' c _)) (hole_o d h _)
    (by rw [slot_o, org_next d h h' hh, View.read_rep])

/-- The query weights' slot after its arrival, in its two shares. -/
theorem arrive_q (d : Fin 2) (h : Fin 3) (c : Dev nD) (j : ℕ) (hj : ∀ i : Fin 12, j ≤ i.val → h.val < (hOf i).val)
    {src : Memref sig .tc .vmem S768x256 .bf16} {hsrc : src.view.WordExact} {hdst : (qS d h).view.WordExact} :
    iprop(recs D κ ∗ levAts L lv ∗ flightC 0 d h c ∗ ow c j)
      ⊢ iprop(((flightD 0 d h c ∗ held c (qS d h) fullShare.left (halfQ D d (org d h c)) ∗ held c (qS d h) fullShare.right (halfQ D d (org d h c)) ∗ ow c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS 0 d h) src (qS d h) hsrc hdst) k) Q) := by
  iintro H Hk
  iapply (wp_arrive D κ 0 d h c j hj (src := src) (dst := qS d h) rfl) $$ [H]
  · iexact H
  iintro ⟨HF, Hs, HO⟩
  ihave Hs := (Entails.of_eq (slot_q D d h c fullShare)) $$ Hs
  ihave H2 := (pointsTo_share (PosShare.mem_left_op_right fullShare)).1 $$ Hs
  icases H2 with ⟨HL, HR⟩
  iapply Hk
  isplitl [HF]; · iexact HF
  isplitl [HL]; · iexact HL
  isplitl [HR]; · iexact HR
  iexact HO
theorem arrive_o (d : Fin 2) (h : Fin 3) (c : Dev nD) (j : ℕ) (hj : ∀ i : Fin 12, j ≤ i.val → h.val < (hOf i).val)
    {src : Memref sig .tc .vmem S256x768 .bf16} {hsrc : src.view.WordExact} {hdst : (oS d h).view.WordExact} :
    iprop(recs D κ ∗ levAts L lv ∗ flightC 1 d h c ∗ ow c j)
      ⊢ iprop(((flightD 1 d h c ∗ held c (oS d h) fullShare.left (halfO D d (org d h c)) ∗ held c (oS d h) fullShare.right (halfO D d (org d h c)) ∗ ow c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS 1 d h) src (oS d h) hsrc hdst) k) Q) := by
  iintro H Hk
  iapply (wp_arrive D κ 1 d h c j hj (src := src) (dst := oS d h) rfl) $$ [H]
  · iexact H
  iintro ⟨HF, Hs, HO⟩
  ihave Hs := (Entails.of_eq (slot_o D d h c fullShare)) $$ Hs
  ihave H2 := (pointsTo_share (PosShare.mem_left_op_right fullShare)).1 $$ Hs
  icases H2 with ⟨HL, HR⟩
  iapply Hk
  isplitl [HF]; · iexact HF
  isplitl [HL]; · iexact HL
  isplitl [HR]; · iexact HR
  iexact HO

end Ops

/-! ## The element sets of the halves -/

theorem set_qH (d : Fin 2) (i : S768x512.Idx) : i ∈ (qH d).view.set ↔ 256 * d.val ≤ (i 1).val ∧ (i 1).val < 256 * d.val + 256 := by
  rw [show (qH d).view.set = _ from View.set_slice_whole cc0_scratch0 _, Rect.mem_set_unit]
  have h0 : (i 0).val < 768 := (i 0).isLt
  constructor
  · intro h; exact h 1
  · intro h a
    fin_cases a
    · exact ⟨Nat.zero_le _, by simpa using h0⟩
    · exact h
theorem set_oH (d : Fin 2) (i : S512x768.Idx) : i ∈ (oH d).view.set ↔ 256 * d.val ≤ (i 0).val ∧ (i 0).val < 256 * d.val + 256 := by
  rw [show (oH d).view.set = _ from View.set_slice_whole cc0_scratch1 _, Rect.mem_set_unit]
  have h0 : (i 1).val < 768 := (i 1).isLt
  constructor
  · intro h; exact h 0
  · intro h a
    fin_cases a
    · exact h
    · exact ⟨Nat.zero_le _, by simpa using h0⟩

theorem disj_qH : Disjoint (qH 0).view.set (qH 1).view.set := by
  rw [Finset.disjoint_left]; intro i h0 h1
  have := (set_qH 0 i).1 h0; have := (set_qH 1 i).1 h1
  simp at *; omega
theorem disj_oH : Disjoint (oH 0).view.set (oH 1).view.set := by
  rw [Finset.disjoint_left]; intro i h0 h1
  have := (set_oH 0 i).1 h0; have := (set_oH 1 i).1 h1
  simp at *; omega
theorem cover_qH : (qH 0).view.set ∪ (qH 1).view.set = Finset.univ := by
  ext i
  have hb : ((i : S768x512.Idx) 1).val < 512 := ((i : S768x512.Idx) 1).isLt
  rw [Finset.mem_union, iff_true_right (Finset.mem_univ _)]
  rcases Nat.lt_or_ge ((i : S768x512.Idx) 1).val 256 with h | h
  · exact .inl ((set_qH 0 i).2 ⟨by simp, by simpa using h⟩)
  · exact .inr ((set_qH 1 i).2 ⟨by simpa using h, by simpa using hb⟩)
theorem cover_oH : (oH 0).view.set ∪ (oH 1).view.set = Finset.univ := by
  ext i
  have hb : ((i : S512x768.Idx) 0).val < 512 := ((i : S512x768.Idx) 0).isLt
  rw [Finset.mem_union, iff_true_right (Finset.mem_univ _)]
  rcases Nat.lt_or_ge ((i : S512x768.Idx) 0).val 256 with h | h
  · exact .inl ((set_oH 0 i).2 ⟨by simp, by simpa using h⟩)
  · exact .inr ((set_oH 1 i).2 ⟨by simpa using h, by simpa using hb⟩)

/-- The weights' bf16 copies: one share kept whole, the other lent to the first hop by halves. -/
theorem lend_q (c : Dev nD) : (wqM.view.loc (c : Thread nD τ) ↦{fullShare} D.wq c : sProp 𝕄)
    ⊣⊢ iprop((wqM.view.loc (c : Thread nD τ) ↦{fullShare.left} D.wq c) ∗ lent D 0 0 0 c ∗ lent D 0 1 0 c) := by
  rw [lent_q0, lent_q0]
  refine (pointsTo_share (PosShare.mem_left_op_right fullShare)).trans ?_
  refine ⟨sep_mono_right ?_, sep_mono_right ?_⟩
  · rw [← cover_qH]; exact (pointsTo_union disj_qH).1
  · rw [← cover_qH]; exact (pointsTo_union disj_qH).2
theorem lend_o (c : Dev nD) : (woM.view.loc (c : Thread nD τ) ↦{fullShare} D.wo c : sProp 𝕄)
    ⊣⊢ iprop((woM.view.loc (c : Thread nD τ) ↦{fullShare.left} D.wo c) ∗ lent D 1 0 0 c ∗ lent D 1 1 0 c) := by
  rw [lent_o0, lent_o0]
  refine (pointsTo_share (PosShare.mem_left_op_right fullShare)).trans ?_
  refine ⟨sep_mono_right ?_, sep_mono_right ?_⟩
  · rw [← cover_oH]; exact (pointsTo_union disj_oH).1
  · rw [← cover_oH]; exact (pointsTo_union disj_oH).2

theorem zero2 : (![0, 0] : Fin 2 → ℕ) = fun _ => 0 := by funext a; fin_cases a <;> rfl

/-! ## The parts -/

theorem stored_q (X : S768x512.Idx → Elt F .f32) (f : S768x512.Idx → Elt F .bf16) :
    wqM.view.writes (Elt F) f [⟨Rect.unit (s := S768x512) ![0, 0] S768x512.size inb_S768x512_S768x512_0_0,
      k0_pay7 (wM.view.readAt (Elt F) (Rect.unit (s := S768x512) ![0, 0] S768x512.size inb_S768x512_S768x512_0_0).toLoadRect X)⟩] = k0_pay7 X := by
  have e : wM.view.readAt (Elt F) (Rect.unit (s := S768x512) ![0, 0] S768x512.size inb_S768x512_S768x512_0_0).toLoadRect X = X :=
    Memref.readAt_unit_zero (Elt F) cc0_stg1_0 zero2 _ X
  rw [e]
  rw [View.writes_cons, View.writes_nil]
  exact Memref.write_access_unit_zero_univ (Elt F) cc0_scratch0 zero2 inb_S768x512_S768x512_0_0 f (k0_pay7 X)
theorem stored_o (X : S512x768.Idx → Elt F .f32) (f : S512x768.Idx → Elt F .bf16) :
    woM.view.writes (Elt F) f [⟨Rect.unit (s := S512x768) ![0, 0] S512x768.size inb_S512x768_S512x768_0_0,
      k0_pay8 (vM.view.readAt (Elt F) (Rect.unit (s := S512x768) ![0, 0] S512x768.size inb_S512x768_S512x768_0_0).toLoadRect X)⟩] = k0_pay8 X := by
  have e : vM.view.readAt (Elt F) (Rect.unit (s := S512x768) ![0, 0] S512x768.size inb_S512x768_S512x768_0_0).toLoadRect X = X :=
    Memref.readAt_unit_zero (Elt F) cc0_stg2_0 zero2 _ X
  rw [e]
  rw [View.writes_cons, View.writes_nil]
  exact Memref.write_access_unit_zero_univ (Elt F) cc0_scratch1 zero2 inb_S512x768_S512x768_0_0 f (k0_pay8 X)

theorem ret_bind {α β : Type} (a : α) (k : α → Prog (TpuEff nD τ sig (Elt F) Λ₀ .tc) β) : (Prog.ret a).bind k = k a := rfl

/-- The barrier's cells as a device finds them: two credits, its own position, the tokens of both neighbours. -/
def gate (c : Dev nD) : sProp 𝕄 :=
  iprop(cred (tallyAt (barCell c) () 2) ∗ atPos ER (barCell c) 0 ∅ 0
    ∗ (dutyTok ER (barCell (nbr 1 c)) 0 0 ∗ reached ER (barCell (nbr 1 c)) 0 ∗ lane 0 c)
    ∗ (dutyTok ER (barCell (nbr 0 c)) 0 1 ∗ reached ER (barCell (nbr 0 c)) 0 ∗ lane 1 c))

section Parts
variable (c : Dev nD)

theorem part1 (fk fv : S16x2x512x128.Idx → Elt F .bf16) (Q : _ → sProp 𝕄) :
    iprop((recs D κ ∗ (khM.view.loc (c : Thread nD τ) ↦{fullShare} D.kk c) ∗ (vhM.view.loc (c : Thread nD τ) ↦{fullShare} D.vv c)
          ∗ (ktM.view.loc (c : Thread nD τ) ↦{fullShare} fk) ∗ (vtM.view.loc (c : Thread nD τ) ↦{fullShare} fv)
          ∗ dutyTok ER (kvCell c) 0 0 ∗ dutyTok ER (kvCell c) 0 1 ∗ reached ER (kvCell c) 0)
        ∗ (∀ (w2 w14 w25 : BitVec 32), (cred (tallyAt (kvCell c) () NK) ∗ cred (tallyAt (kvCell c) () NK))
            -∗ Q ⟨c, w2, w14, w25, iota .tc S256x256 32 [0] iota_S256x256_d0_w32, 64#32, k0_pay1, k0_pay2, 0#32⟩))
      ⊢ wp frame (wpE (defs₀ (F := F)) 𝒱₀ (c : Thread nD τ) none) Set.univ (onArgs (k0_part1 (F := F))) Q := by
  unfold onArgs
  rw [k0_part1_eq_skeleton]; unfold k0_part1_skel
  simp only [Prog.lift, Prog.bind_op, Prog.bind_ret, Prog.pure_eq_ret, Prog.bind_assoc, wp_deviceId]
  iintro ⟨⟨#HI, Hkh, Hvh, Hk, Hv, T0, T1, #Hr⟩, Hc⟩
  have e0 : copied D 0 c = iprop((ktM.view.loc (c : Thread nD τ) ↦[ktM.view.set]{fullShare} ktM.view.write (Elt F) fk (khM.view.read (Elt F) (D.kk c)) Finset.univ)
      ∗ (khM.view.loc (c : Thread nD τ) ↦[khM.view.set]{fullShare} D.kk c)) := by
    rw [show ktM.view.write (Elt F) fk (khM.view.read (Elt F) (D.kk c)) Finset.univ = D.kk c from by rw [View.read_whole]; exact View.write_whole_univ _ _ _]
    rfl
  have e1 : copied D 1 c = iprop((vtM.view.loc (c : Thread nD τ) ↦[vtM.view.set]{fullShare} vtM.view.write (Elt F) fv (vhM.view.read (Elt F) (D.vv c)) Finset.univ)
      ∗ (vhM.view.loc (c : Thread nD τ) ↦[vhM.view.set]{fullShare} D.vv c)) := by
    rw [show vtM.view.write (Elt F) fv (vhM.view.read (Elt F) (D.vv c)) Finset.univ = D.vv c from by rw [View.read_whole]; exact View.write_whole_univ _ _ _]
    rfl
  iapply (wp_fetch D κ 0 c (src := khM) (dst := ktM) (D.kk c) fk rfl e0) $$ [Hkh Hk T0]
  · isplitr; · iexact HI
    isplitl [Hkh]; · rw [View.set_whole]; iexact Hkh
    isplitl [Hk]; · rw [View.set_whole]; iexact Hk
    isplitl [T0]; · iexact T0
    iexact Hr
  iintro C0
  iapply (wp_fetch D κ 1 c (src := vhM) (dst := vtM) (D.vv c) fv rfl e1) $$ [Hvh Hv T1]
  · isplitr; · iexact HI
    isplitl [Hvh]; · rw [View.set_whole]; iexact Hvh
    isplitl [Hv]; · rw [View.set_whole]; iexact Hv
    isplitl [T1]; · iexact T1
    iexact Hr
  iintro C1
  sl_step
  iapply Hc
  isplitl [C0]; · iexact C0
  iexact C1

/-- The rows of one batch of the device's block of `x`, as the body loads them. -/
abbrev xRow0 (X : S2x512x768.Idx → Elt F .f32) : Vec F S1x512x768 .f32 :=
  xM.view.readAt (Elt F) (Rect.unit (s := S2x512x768) ![0, 0, 0] S1x512x768.size inb_S2x512x768_S1x512x768_0_0_0).toLoadRect X
abbrev xRow1 (X : S2x512x768.Idx → Elt F .f32) : Vec F S1x512x768 .f32 :=
  xM.view.readAt (Elt F) (Rect.unit (s := S2x512x768) ![1, 0, 0] S1x512x768.size inb_S2x512x768_S1x512x768_1_0_0).toLoadRect X

theorem part3 (v14 v25 : BitVec 32) (Q : _ → sProp 𝕄) (X0 : S2x512x768.Idx → Elt F .f32) (X1 : S768x512.Idx → Elt F .f32) (X2 : S512x768.Idx → Elt F .f32)
    (hq : D.wq c = k0_pay7 X1) (ho : D.wo c = k0_pay8 X2) (f1 : S768x512.Idx → Elt F .bf16) (f2 : S512x768.Idx → Elt F .bf16) (W : Waits sig Unit) :
    iprop((recs D κ ∗ levAts L lv ∗ (xM.view.loc (c : Thread nD τ) ↦{fullShare} X0) ∗ (wM.view.loc (c : Thread nD τ) ↦{fullShare} X1)
          ∗ (vM.view.loc (c : Thread nD τ) ↦{fullShare} X2)
          ∗ (wqM.view.loc (c : Thread nD τ) ↦{fullShare} f1) ∗ (woM.view.loc (c : Thread nD τ) ↦{fullShare} f2) ∗ gate c ∗ owes (c : Thread nD τ) (owed₀ c) W)
        ∗ (((xM.view.loc (c : Thread nD τ) ↦{fullShare} X0) ∗ (wM.view.loc (c : Thread nD τ) ↦{fullShare} X1) ∗ (vM.view.loc (c : Thread nD τ) ↦{fullShare} X2)
            ∗ ((wqM.view.loc (c : Thread nD τ) ↦{fullShare.left} D.wq c) ∗ lent D 0 0 0 c ∗ lent D 0 1 0 c)
            ∗ ((woM.view.loc (c : Thread nD τ) ↦{fullShare.left} D.wo c) ∗ lent D 1 0 0 c ∗ lent D 1 1 0 c)
            ∗ ow c 0 ∗ atPos ER (barCell c) (0 + 1) ∅ 0 ∗ lane 0 (nbr 0 c) ∗ lane 1 (nbr 1 c)) -∗ Q ⟨k0_pay5 (xRow0 X0), k0_pay6 (xRow1 X0)⟩))
      ⊢ wp frame (wpE (defs₀ (F := F)) 𝒱₀ (c : Thread nD τ) none) Set.univ (onArgs (k0_part3 (F := F)) c v14 v25) Q := by
  unfold onArgs gate
  rw [k0_part3_eq_skeleton]; unfold k0_part3_skel
  iintro ⟨⟨#HI, #Hlev, Hx, Hw, Hv, Hq, Ho, ⟨Hc, Ha, ⟨T0, #R0, L0⟩, ⟨T1, #R1, L1⟩⟩, HO⟩, Hk⟩
  sl_exec
  iapply (wp_hand D κ 0 c _ (dev1_eq c) 1#32 rfl (owed₀ c) (owed₁ c) rfl W) $$ [HO T0 L0]
  · isplitr; · iexact HI
    isplitr; · iexact R0
    isplitl [HO]; · iexact HO
    isplitl [T0]; · iexact T0
    iexact L0
  iintro HO
  sl_exec
  iapply (wp_hand D κ 1 c _ (dev2_eq c) 1#32 rfl (owed₁ c) (owed c 0) rfl W) $$ [HO T1 L1]
  · isplitr; · iexact HI
    isplitr; · iexact R1
    isplitl [HO]; · iexact HO
    isplitl [T1]; · iexact T1
    iexact L1
  iintro HO
  sl_exec
  iapply (wp_meet D κ c 2#32 rfl W) $$ [Hc HO Ha]
  · isplitr; · iexact HI
    isplitr; · iexact Hlev
    isplitl [Hc]; · iexact Hc
    isplitl [HO]; · iexact HO
    iexact Ha
  iintro ⟨HO, Ha, L0, L1⟩
  sl_exec
  sl_step
  iapply Hk
  isplitl [Hx]; · iexact Hx
  isplitl [Hw]; · iexact Hw
  isplitl [Hv]; · iexact Hv
  isplitl [Hq]
  · iapply (lend_q D c).1
    rw [hq]
    iapply (Entails.of_eq (congrArg (fun f => (wqM.view.loc (c : Thread nD τ) ↦{fullShare} f : sProp 𝕄))
      (stored_q X1 f1)))
    iexact Hq
  isplitl [Ho]
  · iapply (lend_o D c).1
    rw [ho]
    iapply (Entails.of_eq (congrArg (fun f => (woM.view.loc (c : Thread nD τ) ↦{fullShare} f : sProp 𝕄))
      (stored_o X2 f2)))
    iexact Ho
  isplitl [HO]; · iexact HO
  isplitl [Ha]; · iexact Ha
  isplitl [L0]; · iexact L0
  iexact L1

theorem copied_k : copied D 0 c = iprop((ktM.view.loc (c : Thread nD τ) ↦[ktM.view.set]{fullShare} D.kk c) ∗ khM.view.loc (c : Thread nD τ) ↦[khM.view.set]{fullShare} D.kk c) := rfl
theorem copied_v : copied D 1 c = iprop((vtM.view.loc (c : Thread nD τ) ↦[vtM.view.set]{fullShare} D.vv c) ∗ vhM.view.loc (c : Thread nD τ) ↦[vhM.view.set]{fullShare} D.vv c) := rfl

theorem part5 (v2 v14 : BitVec 32) (v83 : FVec F S512x768 .bf16) (Q : _ → sProp 𝕄) :
    iprop((recs D κ ∗ levAts L lv ∗ (flightB 1 1 0 c ∗ lent D 1 1 0 c) ∗ ow c 3
          ∗ atPos ER (kvCell c) 0 ∅ 0 ∗ cred (tallyAt (kvCell c) () NK) ∗ cred (tallyAt (kvCell c) () NK)
          ∗ (wqM.view.loc (c : Thread nD τ) ↦{fullShare.left} D.wq c) ∗ (woM.view.loc (c : Thread nD τ) ↦{fullShare.left} D.wo c))
        ∗ (∀ (w w' : BitVec 32), (flightC 1 1 0 c ∗ ow c 4 ∗ atPos ER (kvCell c) (0 + 1) ∅ 0
            ∗ (ktM.view.loc (c : Thread nD τ) ↦{fullShare} D.kk c) ∗ (vtM.view.loc (c : Thread nD τ) ↦{fullShare} D.vv c)
            ∗ (khM.view.loc (c : Thread nD τ) ↦{fullShare} D.kk c) ∗ (vhM.view.loc (c : Thread nD τ) ↦{fullShare} D.vv c)
            ∗ (wqM.view.loc (c : Thread nD τ) ↦{fullShare.left} D.wq c) ∗ (woM.view.loc (c : Thread nD τ) ↦{fullShare.left} D.wo c))
          -∗ Q ⟨w, D.wq c, D.wo c, k0_pay9 v83 (D.wq c), w', k0_pay10 v83 (D.wq c)⟩))
      ⊢ wp frame (wpE (defs₀ (F := F)) 𝒱₀ (c : Thread nD τ) none) Set.univ (onArgs (k0_part5 (F := F)) c v2 v14 v83) Q := by
  unfold onArgs
  rw [k0_part5_eq_skeleton]; unfold k0_part5_skel
  iintro ⟨⟨#HI, #Hlev, ⟨HB, HL⟩, HO, Ha, C0, C1, Hq, Ho⟩, Hk⟩
  sl_exec
  iapply (send_o0 D κ 1 c _ (dev6_eq c) 3 (owed_succ c 3)) $$ [HB HL HO]
  · isplitr; · iexact HI
    isplitl [HB]; · iexact HB
    isplitl [HL]; · iexact HL
    iexact HO
  iintro ⟨HC, HO⟩
  iapply (wp_fetched₁ D κ c 4 (src := khM) (dst := ktM) rfl) $$ [Ha C0 C1 HO]
  · isplitr; · iexact HI
    isplitr; · iexact Hlev
    isplitl [Ha]; · iexact Ha
    isplitl [C0]; · iexact C0
    isplitl [C1]; · iexact C1
    iexact HO
  iintro ⟨HF, HO⟩
  iapply (wp_fetched₂ D κ c 4 (src := vhM) (dst := vtM) rfl) $$ [HF HO]
  · isplitr; · iexact HI
    isplitr; · iexact Hlev
    isplitl [HF]; · iexact HF
    iexact HO
  rw [copied_k, copied_v, View.set_whole, View.set_whole, View.set_whole, View.set_whole]
  iintro ⟨Ha, ⟨Hk0, Hh0⟩, ⟨Hk1, Hh1⟩, HO⟩
  rw [ret_bind]
  sl_exec
  sl_step
  have eq1 : wqM.view.readAt (Elt F) (Rect.unit (s := S768x512) ![0, 0] S768x512.size inb_S768x512_S768x512_0_0).toLoadRect (D.wq c) = D.wq c :=
    Memref.readAt_unit_zero (Elt F) cc0_scratch0 zero2 _ (D.wq c)
  have eo1 : woM.view.readAt (Elt F) (Rect.unit (s := S512x768) ![0, 0] S512x768.size inb_S512x768_S512x768_0_0).toLoadRect (D.wo c) = D.wo c :=
    Memref.readAt_unit_zero (Elt F) cc0_scratch1 zero2 _ (D.wo c)
  rw [eq1, eo1]
  iapply Hk
  iframe HC HO Ha Hk0 Hk1 Hh0 Hh1 Hq Ho

theorem part4 (v14 v25 : BitVec 32) (Q : PUnit → sProp 𝕄) :
    iprop((recs D κ ∗ (flightB 0 0 0 c ∗ lent D 0 0 0 c) ∗ (flightB 1 0 0 c ∗ lent D 1 0 0 c) ∗ (flightB 0 1 0 c ∗ lent D 0 1 0 c) ∗ ow c 0)
        ∗ ((flightC 0 0 0 c ∗ flightC 1 0 0 c ∗ flightC 0 1 0 c ∗ ow c 3) -∗ Q ⟨⟩))
      ⊢ wp frame (wpE (defs₀ (F := F)) 𝒱₀ (c : Thread nD τ) none) Set.univ (onArgs (k0_part4 (F := F)) c v14 v25) Q := by
  unfold onArgs
  rw [k0_part4_eq_skeleton]; unfold k0_part4_skel
  iintro ⟨⟨#HI, ⟨H1, L1⟩, ⟨H2, L2⟩, ⟨H3, L3⟩, HO⟩, Hk⟩
  iapply (send_q0 D κ 0 c _ (dev3_eq c) 0 (owed_succ c 0)) $$ [H1 L1 HO]
  · iframe HI H1 L1 HO
  iintro ⟨H1, HO⟩
  iapply (send_o0 D κ 0 c _ (dev4_eq c) 1 (owed_succ c 1)) $$ [H2 L2 HO]
  · iframe HI H2 L2 HO
  iintro ⟨H2, HO⟩
  iapply (send_q0 D κ 1 c _ (dev5_eq c) 2 (owed_succ c 2)) $$ [H3 L3 HO]
  · iframe HI H3 L3 HO
  iintro ⟨H3, HO⟩
  rw [ret_bind]
  sl_step
  iapply Hk
  iframe H1 H2 H3 HO

theorem part27 (v25 : BitVec 32) (Q : BitVec 32 → sProp 𝕄) :
    iprop((recs D κ ∗ levAts L lv ∗ flightC 0 0 0 c ∗ flightC 1 0 0 c ∗ flightB 0 0 1 c ∗ ow c 4)
        ∗ ((flightD 0 0 0 c ∗ flightD 1 0 0 c ∗ flightC 0 0 1 c ∗ ow c 5
            ∗ held c (qS 0 0) fullShare.left (halfQ D 0 (org 0 0 c)) ∗ held c (oS 0 0) fullShare.left (halfO D 0 (org 0 0 c))
            ∗ held c (oS 0 0) fullShare.right (halfO D 0 (org 0 0 c))) -∗ Q 1#32))
      ⊢ wp frame (wpE (defs₀ (F := F)) 𝒱₀ (c : Thread nD τ) none) Set.univ (onArgs (k0_part27 (F := F)) c v25) Q := by
  unfold onArgs
  rw [k0_part27_eq_skeleton]; unfold k0_part27_skel
  iintro ⟨⟨#HI, #Hlev, H1, H2, H3, HO⟩, Hk⟩
  iapply (arrive_q D κ 0 0 c 4 (by decide) (src := qH 0)) $$ [H1 HO]
  · iframe HI Hlev H1 HO
  iintro ⟨H1, L1, R1, HO⟩
  iapply (arrive_o D κ 0 0 c 4 (by decide) (src := oH 0)) $$ [H2 HO]
  · iframe HI Hlev H2 HO
  iintro ⟨H2, L2, R2, HO⟩
  iapply (send_q D κ 0 1 0 rfl c _ (dev7_eq c) 4 (owed_succ c 4)) $$ [H3 R1 HO]
  · iframe HI H3 R1 HO
  iintro ⟨H3, HO⟩
  rw [ret_bind]
  sl_step
  iapply Hk
  iframe H1 H2 H3 HO L1 L2 R2

theorem part28 (v14 v25 w : BitVec 32) (Q : PUnit → sProp 𝕄) :
    iprop((recs D κ ∗ levAts L lv ∗ held c (oS 0 0) fullShare.right (halfO D 0 (org 0 0 c)) ∗ flightB 1 0 1 c ∗ flightC 0 1 0 c ∗ flightC 1 1 0 c ∗ ow c 5)
        ∗ ((flightC 1 0 1 c ∗ flightD 0 1 0 c ∗ flightD 1 1 0 c ∗ ow c 6
            ∗ held c (qS 1 0) fullShare.left (halfQ D 1 (org 1 0 c)) ∗ held c (qS 1 0) fullShare.right (halfQ D 1 (org 1 0 c))
            ∗ held c (oS 1 0) fullShare.left (halfO D 1 (org 1 0 c)) ∗ held c (oS 1 0) fullShare.right (halfO D 1 (org 1 0 c))) -∗ Q ⟨⟩))
      ⊢ wp frame (wpE (defs₀ (F := F)) 𝒱₀ (c : Thread nD τ) none) Set.univ (onArgs (k0_part28 (F := F)) c v14 v25 w) Q := by
  unfold onArgs
  rw [k0_part28_eq_skeleton]; unfold k0_part28_skel
  iintro ⟨⟨#HI, #Hlev, R, H1, H2, H3, HO⟩, Hk⟩
  iapply (send_o D κ 0 1 0 rfl c _ (dev8_eq c) 5 (owed_succ c 5)) $$ [H1 R HO]
  · iframe HI H1 R HO
  iintro ⟨H1, HO⟩
  iapply (arrive_q D κ 1 0 c 6 (by decide) (src := qH 1)) $$ [H2 HO]
  · iframe HI Hlev H2 HO
  iintro ⟨H2, L2, R2, HO⟩
  iapply (arrive_o D κ 1 0 c 6 (by decide) (src := oH 1)) $$ [H3 HO]
  · iframe HI Hlev H3 HO
  iintro ⟨H3, L3, R3, HO⟩
  rw [ret_bind]
  sl_step
  iapply Hk
  iframe H1 H2 H3 HO L2 R2 L3 R3

theorem part29 (v2 v14 : BitVec 32) (Q : _ → sProp 𝕄) :
    iprop((recs D κ ∗ held c (qS 1 0) fullShare.right (halfQ D 1 (org 1 0 c)) ∗ held c (oS 1 0) fullShare.right (halfO D 1 (org 1 0 c))
          ∗ flightB 0 1 1 c ∗ flightB 1 1 1 c ∗ ow c 6)
        ∗ (∀ (w₁ w₂ : BitVec 32) (b₁ b₂ b₃ : BitVec 1), (flightC 0 1 1 c ∗ flightC 1 1 1 c ∗ ow c 8) -∗ Q ⟨w₁, w₂, b₁, b₂, b₃⟩))
      ⊢ wp frame (wpE (defs₀ (F := F)) 𝒱₀ (c : Thread nD τ) none) Set.univ (onArgs (k0_part29 (F := F)) c v2 v14) Q := by
  unfold onArgs
  rw [k0_part29_eq_skeleton]; unfold k0_part29_skel
  iintro ⟨⟨#HI, R1, R2, H1, H2, HO⟩, Hk⟩
  iapply (send_q D κ 1 1 0 rfl c _ (dev9_eq c) 6 (owed_succ c 6)) $$ [H1 R1 HO]
  · iframe HI H1 R1 HO
  iintro ⟨H1, HO⟩
  iapply (send_o D κ 1 1 0 rfl c _ (dev10_eq c) 7 (owed_succ c 7)) $$ [H2 R2 HO]
  · iframe HI H2 R2 HO
  iintro ⟨H2, HO⟩
  rw [ret_bind]
  sl_exec
  sl_step
  iapply Hk
  iframe H1 H2 HO

/-- The rows of one batch of the result's staging buffer. -/
abbrev rows0 : Rect S2x512x768 := Rect.unit (s := S2x512x768) ![0, 0, 0] S1x512x768.size inb_S2x512x768_S1x512x768_0_0_0
abbrev rows1 : Rect S2x512x768 := Rect.unit (s := S2x512x768) ![1, 0, 0] S1x512x768.size inb_S2x512x768_S1x512x768_1_0_0

theorem part53 (v25 : BitVec 32) (v : FVec F S512x768 .f32) (f : S2x512x768.Idx → Elt F .f32) (a b : Vec F S1x512x768 .f32)
    (l : List (View.Piece (Elt F) S2x512x768 .f32)) (Q : PUnit → sProp 𝕄) :
    iprop((recs D κ ∗ levAts L lv ∗ (yM.view.loc (c : Thread nD τ) ↦{fullShare} yM.view.writes (Elt F) f (⟨rows0, a⟩ :: ⟨rows1, b⟩ :: l))
          ∗ flightC 0 0 1 c ∗ flightC 1 0 1 c ∗ ow c 8)
        ∗ (((yM.view.loc (c : Thread nD τ) ↦{fullShare} yM.view.writes (Elt F) f (⟨rows1, k0_pay206 v b⟩ :: ⟨rows0, a⟩ :: ⟨rows1, b⟩ :: l))
            ∗ flightD 0 0 1 c ∗ flightD 1 0 1 c ∗ ow c 8
            ∗ held c (qS 0 1) fullShare.left (halfQ D 0 (org 0 1 c)) ∗ held c (qS 0 1) fullShare.right (halfQ D 0 (org 0 1 c))
            ∗ held c (oS 0 1) fullShare.left (halfO D 0 (org 0 1 c)) ∗ held c (oS 0 1) fullShare.right (halfO D 0 (org 0 1 c))) -∗ Q ⟨⟩))
      ⊢ wp frame (wpE (defs₀ (F := F)) 𝒱₀ (c : Thread nD τ) none) Set.univ (onArgs (k0_part53 (F := F)) v25 v) Q := by
  unfold onArgs
  rw [k0_part53_eq_skeleton]; unfold k0_part53_skel
  iintro ⟨⟨#HI, #Hlev, Hy, H1, H2, HO⟩, Hk⟩
  sl_exec
  iapply (arrive_q D κ 0 1 c 8 (by decide) (src := qS 0 0)) $$ [H1 HO]
  · iframe HI Hlev H1 HO
  iintro ⟨H1, L1, R1, HO⟩
  iapply (arrive_o D κ 0 1 c 8 (by decide) (src := oS 0 0)) $$ [H2 HO]
  · iframe HI Hlev H2 HO
  iintro ⟨H2, L2, R2, HO⟩
  rw [ret_bind]
  sl_step
  iapply Hk
  iframe H1 H2 HO L1 R1 L2 R2
  rw [show part53.sl.v2161 a b l = b from (View.readCov_skip _ rows0 a _ _ (by decide)).trans (View.readCov_cons_toLoadRect _ rows1 b l)]
  iexact Hy

theorem part54 (v14 v25 : BitVec 32) (Q : PUnit → sProp 𝕄) :
    iprop((recs D κ ∗ held c (qS 0 1) fullShare.right (halfQ D 0 (org 0 1 c)) ∗ held c (oS 0 1) fullShare.right (halfO D 0 (org 0 1 c))
          ∗ flightB 0 0 2 c ∗ flightB 1 0 2 c ∗ ow c 8)
        ∗ ((flightC 0 0 2 c ∗ flightC 1 0 2 c ∗ ow c 10) -∗ Q ⟨⟩))
      ⊢ wp frame (wpE (defs₀ (F := F)) 𝒱₀ (c : Thread nD τ) none) Set.univ (onArgs (k0_part54 (F := F)) c v14 v25) Q := by
  unfold onArgs
  rw [k0_part54_eq_skeleton]; unfold k0_part54_skel
  iintro ⟨⟨#HI, R1, R2, H1, H2, HO⟩, Hk⟩
  iapply (send_q D κ 0 2 1 rfl c _ (dev11_eq c) 8 (owed_succ c 8)) $$ [H1 R1 HO]
  · iframe HI H1 R1 HO
  iintro ⟨H1, HO⟩
  iapply (send_o D κ 0 2 1 rfl c _ (dev12_eq c) 9 (owed_succ c 9)) $$ [H2 R2 HO]
  · iframe HI H2 R2 HO
  iintro ⟨H2, HO⟩
  rw [ret_bind]
  sl_step
  iapply Hk
  iframe H1 H2 HO

theorem part55 (v14 : BitVec 32) (Q : PUnit → sProp 𝕄) :
    iprop((recs D κ ∗ levAts L lv ∗ flightC 0 1 1 c ∗ flightC 1 1 1 c ∗ flightB 0 1 2 c ∗ ow c 10)
        ∗ ((flightD 0 1 1 c ∗ flightD 1 1 1 c ∗ flightC 0 1 2 c ∗ ow c 11
            ∗ held c (qS 1 1) fullShare.left (halfQ D 1 (org 1 1 c)) ∗ held c (oS 1 1) fullShare.left (halfO D 1 (org 1 1 c))
            ∗ held c (oS 1 1) fullShare.right (halfO D 1 (org 1 1 c))) -∗ Q ⟨⟩))
      ⊢ wp frame (wpE (defs₀ (F := F)) 𝒱₀ (c : Thread nD τ) none) Set.univ (onArgs (k0_part55 (F := F)) c v14) Q := by
  unfold onArgs
  rw [k0_part55_eq_skeleton]; unfold k0_part55_skel
  iintro ⟨⟨#HI, #Hlev, H1, H2, H3, HO⟩, Hk⟩
  iapply (arrive_q D κ 1 1 c 10 (by decide) (src := qS 1 0)) $$ [H1 HO]
  · iframe HI Hlev H1 HO
  iintro ⟨H1, L1, R1, HO⟩
  iapply (arrive_o D κ 1 1 c 10 (by decide) (src := oS 1 0)) $$ [H2 HO]
  · iframe HI Hlev H2 HO
  iintro ⟨H2, L2, R2, HO⟩
  iapply (send_q D κ 1 2 1 rfl c _ (dev13_eq c) 10 (owed_succ c 10)) $$ [H3 R1 HO]
  · iframe HI H3 R1 HO
  iintro ⟨H3, HO⟩
  rw [ret_bind]
  sl_step
  iapply Hk
  iframe H1 H2 H3 HO L1 L2 R2

/-- The elements a load of a whole landing slot reads are the slot's own. -/
theorem loads_q (d : Fin 2) (h : Fin 3) :
    ((Memref.whole cc0_scratch4).access (Rect.unit (s := S2x3x768x256) ![d.val, h.val, 0, 0] S1x1x768x256.size (inb_qS d h)) : View sig .tc .vmem _ _).set
      ⊆ (qS d h).view.set := (View.set_reshape _ _).symm.le
theorem loads_o (d : Fin 2) (h : Fin 3) :
    ((Memref.whole cc0_scratch5).access (Rect.unit (s := S2x3x256x768) ![d.val, h.val, 0, 0] S1x1x256x768.size (inb_oS d h)) : View sig .tc .vmem _ _).set
      ⊆ (oS d h).view.set := (View.set_reshape _ _).symm.le

/-- What such a load reads there, the half landed. -/
noncomputable def gotQ (d : Fin 2) (h : Fin 3) : Vec F S1x1x768x256 .bf16 :=
  qcM.view.readAt (Elt F) (Rect.unit (s := S2x3x768x256) ![d.val, h.val, 0, 0] S1x1x768x256.size (inb_qS d h)).toLoadRect ((qS d h).view.rep (halfQ D d (org d h c)))
noncomputable def gotO (d : Fin 2) (h : Fin 3) : Vec F S1x1x256x768 .bf16 :=
  ocM.view.readAt (Elt F) (Rect.unit (s := S2x3x256x768) ![d.val, h.val, 0, 0] S1x1x256x768.size (inb_oS d h)).toLoadRect ((oS d h).view.rep (halfO D d (org d h c)))

theorem part56 (v2 v14 : BitVec 32) (v83 : FVec F S512x768 .bf16) (Q : _ → sProp 𝕄) :
    iprop((recs D κ ∗ held c (oS 1 1) fullShare.right (halfO D 1 (org 1 1 c)) ∗ flightB 1 1 2 c ∗ ow c 11
          ∗ held c (qS 0 1) fullShare.left (halfQ D 0 (org 0 1 c)) ∗ held c (oS 0 1) fullShare.left (halfO D 0 (org 0 1 c)))
        ∗ (∀ (w : BitVec 32), (flightC 1 1 2 c ∗ ow c 12
          ∗ held c (qS 0 1) fullShare.left (halfQ D 0 (org 0 1 c)) ∗ held c (oS 0 1) fullShare.left (halfO D 0 (org 0 1 c)))
          -∗ Q ⟨w, k0_pay207 (gotQ D c 0 1), k0_pay208 (gotO D c 0 1), k0_pay209 v83 (gotQ D c 0 1)⟩))
      ⊢ wp frame (wpE (defs₀ (F := F)) 𝒱₀ (c : Thread nD τ) none) Set.univ (onArgs (k0_part56 (F := F)) c v2 v14 v83) Q := by
  unfold onArgs
  rw [k0_part56_eq_skeleton]; unfold k0_part56_skel
  iintro ⟨⟨#HI, R1, H1, HO, Hq, Ho⟩, Hk⟩
  iapply (send_o D κ 1 2 1 rfl c _ (dev14_eq c) 11 (owed_succ c 11)) $$ [H1 R1 HO]
  · iframe HI H1 R1 HO
  iintro ⟨H1, HO⟩
  rw [ret_bind]
  unfold held
  have hq := loads_q 0 1
  have ho := loads_o 0 1
  sl_exec
  sl_step
  rw [show part56.sl.v2251 D c = gotQ D c 0 1 from rfl, show part56.sl.v2253 D c = gotO D c 0 1 from rfl]
  iapply Hk
  iframe H1 HO Hq Ho

theorem part80 (v14 v25 : BitVec 32) (Q : PUnit → sProp 𝕄) :
    iprop((recs D κ ∗ levAts L lv ∗ flightC 0 0 2 c ∗ flightC 1 0 2 c ∗ flightC 0 1 2 c ∗ ow c 12)
        ∗ ((flightD 0 0 2 c ∗ flightD 1 0 2 c ∗ flightD 0 1 2 c ∗ ow c 12
            ∗ held c (qS 0 2) fullShare.left (halfQ D 0 (org 0 2 c)) ∗ held c (qS 0 2) fullShare.right (halfQ D 0 (org 0 2 c))
            ∗ held c (oS 0 2) fullShare.left (halfO D 0 (org 0 2 c)) ∗ held c (oS 0 2) fullShare.right (halfO D 0 (org 0 2 c))
            ∗ held c (qS 1 2) fullShare.left (halfQ D 1 (org 1 2 c)) ∗ held c (qS 1 2) fullShare.right (halfQ D 1 (org 1 2 c))) -∗ Q ⟨⟩))
      ⊢ wp frame (wpE (defs₀ (F := F)) 𝒱₀ (c : Thread nD τ) none) Set.univ (onArgs (k0_part80 (F := F)) v14 v25) Q := by
  unfold onArgs
  rw [k0_part80_eq_skeleton]; unfold k0_part80_skel
  iintro ⟨⟨#HI, #Hlev, H1, H2, H3, HO⟩, Hk⟩
  iapply (arrive_q D κ 0 2 c 12 (by decide) (src := qS 0 1)) $$ [H1 HO]
  · iframe HI Hlev H1 HO
  iintro ⟨H1, L1, R1, HO⟩
  iapply (arrive_o D κ 0 2 c 12 (by decide) (src := oS 0 1)) $$ [H2 HO]
  · iframe HI Hlev H2 HO
  iintro ⟨H2, L2, R2, HO⟩
  iapply (arrive_q D κ 1 2 c 12 (by decide) (src := qS 1 1)) $$ [H3 HO]
  · iframe HI Hlev H3 HO
  iintro ⟨H3, L3, R3, HO⟩
  rw [ret_bind]
  sl_step
  iapply Hk
  iframe H1 H2 H3 HO L1 R1 L2 R2 L3 R3

theorem part81 (v2 v14 : BitVec 32) (v83 : FVec F S512x768 .bf16) (Q : _ → sProp 𝕄) :
    iprop((recs D κ ∗ levAts L lv ∗ flightC 1 1 2 c ∗ ow c 12
          ∗ held c (qS 0 2) fullShare.left (halfQ D 0 (org 0 2 c)) ∗ held c (oS 0 2) fullShare.left (halfO D 0 (org 0 2 c)))
        ∗ (∀ (w₁ w₂ w₃ : BitVec 32) (b : BitVec 1), (flightD 1 1 2 c ∗ ow c 12
          ∗ held c (oS 1 2) fullShare.left (halfO D 1 (org 1 2 c)) ∗ held c (oS 1 2) fullShare.right (halfO D 1 (org 1 2 c))
          ∗ held c (qS 0 2) fullShare.left (halfQ D 0 (org 0 2 c)) ∗ held c (oS 0 2) fullShare.left (halfO D 0 (org 0 2 c)))
          -∗ Q ⟨w₁, k0_pay313 (gotQ D c 0 2), k0_pay314 (gotO D c 0 2), k0_pay315 v83 (gotQ D c 0 2), w₂, w₃, b⟩))
      ⊢ wp frame (wpE (defs₀ (F := F)) 𝒱₀ (c : Thread nD τ) none) Set.univ (onArgs (k0_part81 (F := F)) v2 v14 v83) Q := by
  unfold onArgs
  rw [k0_part81_eq_skeleton]; unfold k0_part81_skel
  iintro ⟨⟨#HI, #Hlev, H1, HO, Hq, Ho⟩, Hk⟩
  iapply (arrive_o D κ 1 2 c 12 (by decide) (src := oS 1 1)) $$ [H1 HO]
  · iframe HI Hlev H1 HO
  iintro ⟨H1, L1, R1, HO⟩
  rw [ret_bind]
  unfold held
  have hq := loads_q 0 2
  have ho := loads_o 0 2
  sl_exec
  sl_step
  rw [show part81.sl.v3293 D c = gotQ D c 0 2 from rfl, show part81.sl.v3295 D c = gotO D c 0 2 from rfl]
  iapply Hk
  iframe H1 HO L1 R1 Hq Ho

/-- What a transfer of half the query weights, or of half the output weights, counts. -/
theorem credit_q (M : Memref sig .tc .vmem S768x256 .bf16) : M.view.dmaCredit = amt 0 := rfl
theorem credit_o (M : Memref sig .tc .vmem S256x768 .bf16) : M.view.dmaCredit = amt 1 := rfl

theorem part104 (v79 : FVec F S256x256 .f32) (v3802 : FVec F S256x768 .bf16) (v4108 v4166 v4224 : FVec F S512x64 .bf16)
    (v4254 v4255 v4256 v4257 : FVec F S256x64 .bf16) (v4259 v4261 : FVec F S256x65 .bf16) (z : FVec F S256x256 .f32)
    (f : S2x512x768.Idx → Elt F .f32) (a b : Vec F S1x512x768 .f32) (l : List (View.Piece (Elt F) S2x512x768 .f32)) (Q : PUnit → sProp 𝕄) :
    iprop((recs D κ ∗ (yM.view.loc (c : Thread nD τ) ↦{fullShare} yM.view.writes (Elt F) f (⟨rows0, a⟩ :: ⟨rows1, b⟩ :: l)) ∗ flightD 0 0 0 c ∗ ow c 12)
        ∗ (((yM.view.loc (c : Thread nD τ) ↦{fullShare} yM.view.writes (Elt F) f
              (⟨rows1, k0_pay424 v79 v3802 v4108 v4166 v4224 v4254 v4255 v4256 v4257 v4259 v4261 z b⟩ :: ⟨rows0, a⟩ :: ⟨rows1, b⟩ :: l))
            ∗ flightE 0 0 0 c ∗ lent D 0 0 0 c ∗ ow c 12) -∗ Q ⟨⟩))
      ⊢ wp frame (wpE (defs₀ (F := F)) 𝒱₀ (c : Thread nD τ) none) Set.univ
          (onArgs (k0_part104 (F := F)) v79 v3802 v4108 v4166 v4224 v4254 v4255 v4256 v4257 v4259 v4261 z) Q := by
  unfold onArgs
  rw [k0_part104_eq_skeleton]; unfold k0_part104_skel
  iintro ⟨⟨#HI, Hy, H1, HO⟩, Hk⟩
  sl_exec
  iapply (wp_depart D κ 0 0 0 c (src := qS 0 0) (dst := qH 0) (credit_q _)) $$ [H1 HO]
  · iframe HI H1 HO
  iintro ⟨H1, L1, HO⟩
  sl_step
  iapply Hk
  iframe H1 HO L1
  rw [show part104.sl.v4285 a b l = b from (View.readCov_skip _ rows0 a _ _ (by decide)).trans (View.readCov_cons_toLoadRect _ rows1 b l)]
  iexact Hy

theorem part105 (Q : PUnit → sProp 𝕄) :
    iprop((recs D κ ∗ flightD 1 0 0 c ∗ flightD 0 1 0 c ∗ flightD 1 1 0 c ∗ ow c 12)
        ∗ (((flightE 1 0 0 c ∗ flightE 0 1 0 c ∗ flightE 1 1 0 c) ∗ (lent D 1 0 0 c ∗ lent D 0 1 0 c ∗ lent D 1 1 0 c) ∗ ow c 12) -∗ Q ⟨⟩))
      ⊢ wp frame (wpE (defs₀ (F := F)) 𝒱₀ (c : Thread nD τ) none) Set.univ (onArgs (k0_part105 (F := F))) Q := by
  unfold onArgs
  rw [k0_part105_eq_skeleton]; unfold k0_part105_skel
  iintro ⟨⟨#HI, H1, H2, H3, HO⟩, Hk⟩
  iapply (wp_depart D κ 1 0 0 c (src := oS 0 0) (dst := oH 0) (credit_o _)) $$ [H1 HO]
  · iframe HI H1 HO
  iintro ⟨H1, L1, HO⟩
  iapply (wp_depart D κ 0 1 0 c (src := qS 1 0) (dst := qH 1) (credit_q _)) $$ [H2 HO]
  · iframe HI H2 HO
  iintro ⟨H2, L2, HO⟩
  iapply (wp_depart D κ 1 1 0 c (src := oS 1 0) (dst := oH 1) (credit_o _)) $$ [H3 HO]
  · iframe HI H3 HO
  iintro ⟨H3, L3, HO⟩
  rw [ret_bind]
  sl_step
  iapply Hk
  iframe H1 H2 H3 HO L1 L2 L3

theorem part106 (Q : PUnit → sProp 𝕄) :
    iprop((recs D κ ∗ flightD 0 0 1 c ∗ flightD 1 0 1 c ∗ flightD 0 1 1 c ∗ ow c 12)
        ∗ (((flightE 0 0 1 c ∗ flightE 1 0 1 c ∗ flightE 0 1 1 c) ∗ (lent D 0 0 1 c ∗ lent D 1 0 1 c ∗ lent D 0 1 1 c) ∗ ow c 12) -∗ Q ⟨⟩))
      ⊢ wp frame (wpE (defs₀ (F := F)) 𝒱₀ (c : Thread nD τ) none) Set.univ (onArgs (k0_part106 (F := F))) Q := by
  unfold onArgs
  rw [k0_part106_eq_skeleton]; unfold k0_part106_skel
  iintro ⟨⟨#HI, H1, H2, H3, HO⟩, Hk⟩
  iapply (wp_depart D κ 0 0 1 c (src := qS 0 1) (dst := qS 0 0) (credit_q _)) $$ [H1 HO]
  · iframe HI H1 HO
  iintro ⟨H1, L1, HO⟩
  iapply (wp_depart D κ 1 0 1 c (src := oS 0 1) (dst := oS 0 0) (credit_o _)) $$ [H2 HO]
  · iframe HI H2 HO
  iintro ⟨H2, L2, HO⟩
  iapply (wp_depart D κ 0 1 1 c (src := qS 1 1) (dst := qS 1 0) (credit_q _)) $$ [H3 HO]
  · iframe HI H3 HO
  iintro ⟨H3, L3, HO⟩
  rw [ret_bind]
  sl_step
  iapply Hk
  iframe H1 H2 H3 HO L1 L2 L3

theorem part107 (Q : PUnit → sProp 𝕄) :
    iprop((recs D κ ∗ flightD 1 1 1 c ∗ flightD 0 0 2 c ∗ flightD 1 0 2 c ∗ ow c 12)
        ∗ (((flightE 1 1 1 c ∗ flightE 0 0 2 c ∗ flightE 1 0 2 c) ∗ (lent D 1 1 1 c ∗ lent D 0 0 2 c ∗ lent D 1 0 2 c) ∗ ow c 12) -∗ Q ⟨⟩))
      ⊢ wp frame (wpE (defs₀ (F := F)) 𝒱₀ (c : Thread nD τ) none) Set.univ (onArgs (k0_part107 (F := F))) Q := by
  unfold onArgs
  rw [k0_part107_eq_skeleton]; unfold k0_part107_skel
  iintro ⟨⟨#HI, H1, H2, H3, HO⟩, Hk⟩
  iapply (wp_depart D κ 1 1 1 c (src := oS 1 1) (dst := oS 1 0) (credit_o _)) $$ [H1 HO]
  · iframe HI H1 HO
  iintro ⟨H1, L1, HO⟩
  iapply (wp_depart D κ 0 0 2 c (src := qS 0 2) (dst := qS 0 1) (credit_q _)) $$ [H2 HO]
  · iframe HI H2 HO
  iintro ⟨H2, L2, HO⟩
  iapply (wp_depart D κ 1 0 2 c (src := oS 0 2) (dst := oS 0 1) (credit_o _)) $$ [H3 HO]
  · iframe HI H3 HO
  iintro ⟨H3, L3, HO⟩
  rw [ret_bind]
  sl_step
  iapply Hk
  iframe H1 H2 H3 HO L1 L2 L3
end Parts

end Cert.KernelIdeal.Ring
-- ==== Proof.KernelIdeal.Blocks.lean ====
/-
# What the kernel computes, one block of heads at a time
-/
module

public import proofs.«01_k».proof.Proof.KernelIdeal.Parts
public import Idealize.ShloMosaic.Lib.WritesUnit

@[expose] public section

noncomputable section

namespace Cert.KernelIdeal.Ring

open Cert.KernelIdeal Cert.KernelIdeal.Gen
open Idealize.ShloMosaic
open Idealize.ShloMosaic.TcCoe

variable {F : FTy → Type} [FloatOps F] [Named F]

/-- The mask's additive term over one 256 by 256 block: nothing where the key is not of a later 64-block, the mask constant elsewhere. -/
def bias : FVec F S256x256 .f32 := k0_pay3 (iota .tc S256x256 32 [0] iota_S256x256_d0_w32) 64#32 k0_pay1 k0_pay2 0#32

/-- A column of ones. -/
def ones : FVec F S256x1 .bf16 := broadcast S256x1 (Scalar.ofBits .bf16 0x3F80#16)

/-- Half of the rows of a head's queries, keys or values. -/
def rowsLo (x : FVec F S512x64 .bf16) : FVec F S256x64 .bf16 := extractStridedSlice S256x64 ![0, 0] x slices_S512x64_o0_0_S256x64
def rowsHi (x : FVec F S512x64 .bf16) : FVec F S256x64 .bf16 := extractStridedSlice S256x64 ![256, 0] x slices_S512x64_o256_0_S256x64
/-- Values with the column of ones appended. -/
def vOne (v : FVec F S256x64 .bf16) : FVec F S256x65 .bf16 := concatenate S256x65 1 [⟨S256x64, v⟩, ⟨S256x1, ones⟩] concatenates_S256x64_S256x1_S256x65_d1
/-- The scores of one block. -/
def score (q k : FVec F S256x64 .bf16) : FVec F S256x256 .f32 :=
  matmul dot_S256x64_S256x64_S256x256_1_1_0_0_n_n none q k (constant S256x256 .f32 0x00000000#32)
/-- The weighted values, and in the last column the weights' sum. -/
def weigh (s : FVec F S256x256 .f32) (v : FVec F S256x65 .bf16) : FVec F S256x65 .f32 :=
  matmul dot_S256x256_S256x65_S256x65_1_0_0_1_n_n none (truncf .bf16 (exp s) bitsLt_bf16_f32) v (constant S256x65 .f32 0x00000000#32)

/-- Weighted values and weights' sums of one head, the upper right block left out. -/
def sums (q k v : FVec F S512x64 .bf16) : FVec F S512x65 .f32 :=
  concatenate S512x65 0
    [⟨S256x65, weigh (addf (score (rowsLo q) (rowsLo k)) bias) (vOne (rowsLo v))⟩,
     ⟨S256x65, addf (weigh (score (rowsHi q) (rowsLo k)) (vOne (rowsLo v))) (weigh (addf (score (rowsHi q) (rowsHi k)) bias) (vOne (rowsHi v)))⟩]
    concatenates_S256x65_S256x65_S512x65_d0

/-- One head's attention output. -/
def head (q k v : FVec F S512x64 .bf16) : FVec F S512x64 .bf16 :=
  truncf .bf16 (divf (extractStridedSlice S512x64 ![0, 0] (sums q k v) slices_S512x65_o0_0_S512x64)
    (broadcastTo S512x64 (extractStridedSlice S512x1 ![0, 64] (sums q k v) slices_S512x65_o0_64_S512x1) broadcasts_S512x1_S512x64)) bitsLt_bf16_f32

/-- The two heads of a pair of keys or values. -/
def pairOf (x : Vec F S1x1x512x128 .bf16) : FVec F S512x128 .bf16 :=
  shapeCast S512x128 (shapeCast S1x512x128 x shapeCasts_S1x1x512x128_S1x512x128) shapeCasts_S1x512x128_S512x128
def lo (x : Vec F S1x1x512x128 .bf16) : FVec F S512x64 .bf16 := extractStridedSlice S512x64 ![0, 0] (pairOf x) slices_S512x128_o0_0_S512x64
def hi (x : Vec F S1x1x512x128 .bf16) : FVec F S512x64 .bf16 := extractStridedSlice S512x64 ![0, 64] (pairOf x) slices_S512x128_o0_64_S512x64

/-- The scaled queries of eight heads, and of four. -/
def qs8 (x : FVec F S512x768 .bf16) (w : Vec F S768x512 .bf16) : FVec F S512x512 .bf16 :=
  truncf .bf16 (mulf (matmul dot_S512x768_S768x512_S512x512_1_0_0_1_n_n none x w (constant S512x512 .f32 0x00000000#32))
    (broadcast S512x512 (Scalar.ofBits .f32 0x3E000000#32))) bitsLt_bf16_f32
def qs4 (x : FVec F S512x768 .bf16) (w : FVec F S768x256 .bf16) : FVec F S512x256 .bf16 :=
  truncf .bf16 (mulf (matmul dot_S512x768_S768x256_S512x256_1_0_0_1_n_n none x w (constant S512x256 .f32 0x00000000#32))
    (broadcast S512x256 (Scalar.ofBits .f32 0x3E000000#32))) bitsLt_bf16_f32

/-- Eight heads' contribution to the result: their own weights, four pairs of keys and values. -/
def block8 (x : FVec F S512x768 .bf16) (w : Vec F S768x512 .bf16) (o : Vec F S512x768 .bf16) (k v : Fin 4 → Vec F S1x1x512x128 .bf16) : FVec F S512x768 .f32 :=
  matmul dot_S512x512_S512x768_S512x768_1_0_0_1_n_n none
    (concatenate S512x512 1
      [⟨S512x64, head (extractStridedSlice S512x64 ![0, 0] (qs8 x w) slices_S512x512_o0_0_S512x64) (lo (k 0)) (lo (v 0))⟩,
       ⟨S512x64, head (extractStridedSlice S512x64 ![0, 64] (qs8 x w) slices_S512x512_o0_64_S512x64) (hi (k 0)) (hi (v 0))⟩,
       ⟨S512x64, head (extractStridedSlice S512x64 ![0, 128] (qs8 x w) slices_S512x512_o0_128_S512x64) (lo (k 1)) (lo (v 1))⟩,
       ⟨S512x64, head (extractStridedSlice S512x64 ![0, 192] (qs8 x w) slices_S512x512_o0_192_S512x64) (hi (k 1)) (hi (v 1))⟩,
       ⟨S512x64, head (extractStridedSlice S512x64 ![0, 256] (qs8 x w) slices_S512x512_o0_256_S512x64) (lo (k 2)) (lo (v 2))⟩,
       ⟨S512x64, head (extractStridedSlice S512x64 ![0, 320] (qs8 x w) slices_S512x512_o0_320_S512x64) (hi (k 2)) (hi (v 2))⟩,
       ⟨S512x64, head (extractStridedSlice S512x64 ![0, 384] (qs8 x w) slices_S512x512_o0_384_S512x64) (lo (k 3)) (lo (v 3))⟩,
       ⟨S512x64, head (extractStridedSlice S512x64 ![0, 448] (qs8 x w) slices_S512x512_o0_448_S512x64) (hi (k 3)) (hi (v 3))⟩]
      concatenates_S512x64_S512x64_S512x64_S512x64_S512x64_S512x64_S512x64_S512x64_S512x512_d1)
    o (constant S512x768 .f32 0x00000000#32)

/-- Four heads' contribution, with weights that came from another device. -/
def block4 (x : FVec F S512x768 .bf16) (w : Vec F S1x1x768x256 .bf16) (o : Vec F S1x1x256x768 .bf16) (k v : Fin 2 → Vec F S1x1x512x128 .bf16) : FVec F S512x768 .f32 :=
  matmul dot_S512x256_S256x768_S512x768_1_0_0_1_n_n none
    (concatenate S512x256 1
      [⟨S512x64, head (extractStridedSlice S512x64 ![0, 0] (qs4 x (shapeCast S768x256 w shapeCasts_S1x1x768x256_S768x256)) slices_S512x256_o0_0_S512x64) (lo (k 0)) (lo (v 0))⟩,
       ⟨S512x64, head (extractStridedSlice S512x64 ![0, 64] (qs4 x (shapeCast S768x256 w shapeCasts_S1x1x768x256_S768x256)) slices_S512x256_o0_64_S512x64) (hi (k 0)) (hi (v 0))⟩,
       ⟨S512x64, head (extractStridedSlice S512x64 ![0, 128] (qs4 x (shapeCast S768x256 w shapeCasts_S1x1x768x256_S768x256)) slices_S512x256_o0_128_S512x64) (lo (k 1)) (lo (v 1))⟩,
       ⟨S512x64, head (extractStridedSlice S512x64 ![0, 192] (qs4 x (shapeCast S768x256 w shapeCasts_S1x1x768x256_S768x256)) slices_S512x256_o0_192_S512x64) (hi (k 1)) (hi (v 1))⟩]
      concatenates_S512x64_S512x64_S512x64_S512x64_S512x256_d1)
    (shapeCast S256x768 o shapeCasts_S1x1x256x768_S256x768) (constant S512x768 .f32 0x00000000#32)

/-- A contribution added to what a batch of the result holds so far. -/
def add (y : Vec F S1x512x768 .f32) (p : FVec F S512x768 .f32) : Vec F S1x512x768 .f32 :=
  shapeCast S1x512x768 (addf (shapeCast S512x768 y shapeCasts_S1x512x768_S512x768) p) shapeCasts_S512x768_S1x512x768

variable (D : Data F) (c : Dev nD)

/-- A pair of heads of the keys, and of the values, the device holds, at the offsets `off`. -/
def kAt (off : Fin 4 → ℕ) (inb : ∀ a, off a + S1x1x512x128.size a ≤ S16x2x512x128.size a) : Vec F S1x1x512x128 .bf16 :=
  ktM.view.readAt (Elt F) (Rect.unit (s := S16x2x512x128) off S1x1x512x128.size inb).toLoadRect (D.kk c)
def vAt (off : Fin 4 → ℕ) (inb : ∀ a, off a + S1x1x512x128.size a ≤ S16x2x512x128.size a) : Vec F S1x1x512x128 .bf16 :=
  vtM.view.readAt (Elt F) (Rect.unit (s := S16x2x512x128) off S1x1x512x128.size inb).toLoadRect (D.vv c)

/-- The pair `r` of a batch's heads whose weights the device itself holds, and of those whose weights come in at hop `h` in direction `d`: where they lie. -/
def offOwn (b : Fin 2) (r : Fin 4) : Fin 4 → ℕ := match b with
  | 0 => k0_off1 c (BitVec.ofNat 32 r.val)
  | 1 => k0_off2 c (BitVec.ofNat 32 r.val)
theorem offOwn_inb (b : Fin 2) (r : Fin 4) : ∀ a, offOwn c b r a + S1x1x512x128.size a ≤ S16x2x512x128.size a := match b with
  | 0 => k0_off1_inb c r
  | 1 => k0_off2_inb c r
def offHop (b d : Fin 2) (h : Fin 3) (r : Fin 2) : Fin 4 → ℕ := match b, d with
  | 0, 0 => k0_off3 c (BitVec.ofNat 32 (1 + h.rev.val)) (BitVec.ofNat 32 r.val)
  | 1, 0 => k0_off4 c (BitVec.ofNat 32 (1 + h.rev.val)) (BitVec.ofNat 32 r.val)
  | 0, 1 => k0_off5 c (BitVec.ofNat 32 h.val) (BitVec.ofNat 32 r.val)
  | 1, 1 => k0_off6 c (BitVec.ofNat 32 h.val) (BitVec.ofNat 32 r.val)
theorem offHop_inb (b d : Fin 2) (h : Fin 3) (r : Fin 2) : ∀ a, offHop c b d h r a + S1x1x512x128.size a ≤ S16x2x512x128.size a := match b, d with
  | 0, 0 => k0_off3_inb c h.rev r
  | 1, 0 => k0_off4_inb c h.rev r
  | 0, 1 => k0_off5_inb c h r
  | 1, 1 => k0_off6_inb c h r

/-- One batch of the device's block of `x`, rounded. -/
def xRow (X : S2x512x768.Idx → Elt F .f32) (b : Fin 2) : FVec F S512x768 .bf16 := match b with
  | 0 => k0_pay5 (xRow0 X)
  | 1 => k0_pay6 (xRow1 X)

/-- The contribution of the heads whose weights the device holds from the start. -/
def own (X : S2x512x768.Idx → Elt F .f32) (b : Fin 2) : FVec F S512x768 .f32 :=
  block8 (xRow X b) (D.wq c) (D.wo c)
    (fun r => kAt D c (offOwn c b r) (offOwn_inb c b r)) (fun r => vAt D c (offOwn c b r) (offOwn_inb c b r))

/-- The contribution of the heads whose weights come in at hop `h` in direction `d`. -/
def hop (X : S2x512x768.Idx → Elt F .f32) (b d : Fin 2) (h : Fin 3) : FVec F S512x768 .f32 :=
  block4 (xRow X b) (gotQ D c d h) (gotO D c d h)
    (fun r => kAt D c (offHop c b d h r) (offHop_inb c b d h r)) (fun r => vAt D c (offHop c b d h r) (offHop_inb c b d h r))

/-- One batch of the result: the contributions added in the order they come. -/
def total (X : S2x512x768.Idx → Elt F .f32) (b : Fin 2) : Vec F S1x512x768 .f32 :=
  add (add (add (add (add (add (shapeCast S1x512x768 (own D c X b) shapeCasts_S512x768_S1x512x768)
    (hop D c X b 0 0)) (hop D c X b 1 0)) (hop D c X b 0 1)) (hop D c X b 1 1)) (hop D c X b 0 2)) (hop D c X b 1 2)

/-- An index of the block, in its batch. -/
def inRow (i : S2x512x768.Idx) : S1x512x768.Idx := fun a => match a with | 0 => (0 : Fin 1) | 1 => i 1 | 2 => i 2

/-- A block made of its two batches. -/
def stack (p : Fin 2 → Vec F S1x512x768 .f32) : S2x512x768.Idx → Elt F .f32 :=
  fun i => p (i 0) (inRow i)

/-- The device's block of the result. -/
def result (X : S2x512x768.Idx → Elt F .f32) : S2x512x768.Idx → Elt F .f32 := stack (total D c X)

theorem row_offset (i : S2x512x768.Idx) (b : ℕ) (h : (i 0).val = b) : ∀ a, (i a).val = (![b, 0, 0] : Fin 3 → ℕ) a + (inRow i a).val
  | 0 => h
  | 1 => (Nat.zero_add _).symm
  | 2 => (Nat.zero_add _).symm

/-- The two last stores leave the block made of what they stored. -/
theorem writes_stack (p : Fin 2 → Vec F S1x512x768 .f32) (Y : S2x512x768.Idx → Elt F .f32) (l : List (View.Piece (Elt F) S2x512x768 .f32)) :
    yM.view.writes (Elt F) Y (⟨rows1, p 1⟩ :: ⟨rows0, p 0⟩ :: l) = stack p := by
  funext i
  have hr : ∀ f : S2x512x768.Idx → Elt F .f32, yM.view.read (Elt F) f = f := fun f => rfl
  refine (congrFun (hr _) i).symm.trans ?_
  unfold stack
  by_cases h0 : (i 0).val = 0
  · have e : i 0 = (0 : Fin 2) := Fin.ext h0
    rw [e]
    exact (View.read_writes_cons_unit_of_not_mem yM.view Y inb_S2x512x768_S1x512x768_1_0_0 (p 1) _ i rfl 0 (Or.inl (by rw [h0]; exact Nat.one_pos))).trans
      (View.read_writes_cons_unit_of_mem yM.view Y inb_S2x512x768_S1x512x768_0_0_0 (p 0) l i (inRow i) rfl (row_offset i 0 h0))
  · have h1 : (i 0).val = 1 := by have h2 : (i 0).val < 2 := (i 0).isLt; omega
    have e : i 0 = (1 : Fin 2) := Fin.ext h1
    rw [e]
    exact View.read_writes_cons_unit_of_mem yM.view Y inb_S2x512x768_S1x512x768_1_0_0 (p 1) _ i (inRow i) rfl (row_offset i 1 h1)

/-- A batch read back under the other batch's newer store is what it last held: what is added to it is added to that. -/
theorem again0 (a b : Vec F S1x512x768 .f32) (l : List (View.Piece (Elt F) S2x512x768 .f32)) (p : FVec F S512x768 .f32) :
    add (yM.view.readCov (⟨rows1, b⟩ :: ⟨rows0, a⟩ :: l) rows0.toLoadRect) p = add a p :=
  congrArg (fun y => add y p) ((View.readCov_skip _ rows1 b _ _ (by decide)).trans (View.readCov_cons_toLoadRect _ rows0 a l))
theorem again1 (a b : Vec F S1x512x768 .f32) (l : List (View.Piece (Elt F) S2x512x768 .f32)) (p : FVec F S512x768 .f32) :
    add (yM.view.readCov (⟨rows0, a⟩ :: ⟨rows1, b⟩ :: l) rows1.toLoadRect) p = add b p :=
  congrArg (fun y => add y p) ((View.readCov_skip _ rows0 a _ _ (by decide)).trans (View.readCov_cons_toLoadRect _ rows1 b l))

theorem more0 {a q b : Vec F S1x512x768 .f32} {l : List (View.Piece (Elt F) S2x512x768 .f32)} (p : FVec F S512x768 .f32) (h : a = q) :
    add (yM.view.readCov (⟨rows1, b⟩ :: ⟨rows0, a⟩ :: l) rows0.toLoadRect) p = add q p :=
  (again0 a b l p).trans (congrArg (fun y => add y p) h)
theorem more1 {a b q : Vec F S1x512x768 .f32} {l : List (View.Piece (Elt F) S2x512x768 .f32)} (p : FVec F S512x768 .f32) (h : b = q) :
    add (yM.view.readCov (⟨rows0, a⟩ :: ⟨rows1, b⟩ :: l) rows1.toLoadRect) p = add q p :=
  (again1 a b l p).trans (congrArg (fun y => add y p) h)
theorem plus {a q : Vec F S1x512x768 .f32} (p : FVec F S512x768 .f32) (h : a = q) : add a p = add q p :=
  congrArg (fun y => add y p) h

end Cert.KernelIdeal.Ring
-- ==== Proof.KernelIdeal.Body.lean ====
/-
# The body of the kernel, from its first operation to its last
-/
module

public import proofs.«01_k».proof.Proof.KernelIdeal.Blocks

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (D : Data F) (κ : GSem nD τ sig → ℕ) (c : Dev nD)

/-- What a device holds when its body begins. -/
def start (X0 : S2x512x768.Idx → Elt F .f32) (X1 : S768x512.Idx → Elt F .f32) (X2 : S512x768.Idx → Elt F .f32) (Y : S2x512x768.Idx → Elt F .f32)
    (fk fv : S16x2x512x128.Idx → Elt F .bf16) (f1 : S768x512.Idx → Elt F .bf16) (f2 : S512x768.Idx → Elt F .bf16) (W : Waits sig Unit) : sProp 𝕄 :=
  iprop(recs D κ ∗ levAts L lv ∗ (xM.view.loc (c : Thread nD τ) ↦{fullShare} X0) ∗ (wM.view.loc (c : Thread nD τ) ↦{fullShare} X1)
    ∗ (vM.view.loc (c : Thread nD τ) ↦{fullShare} X2) ∗ (yM.view.loc (c : Thread nD τ) ↦{fullShare} Y)
    ∗ (khM.view.loc (c : Thread nD τ) ↦{fullShare} D.kk c) ∗ (vhM.view.loc (c : Thread nD τ) ↦{fullShare} D.vv c)
    ∗ (ktM.view.loc (c : Thread nD τ) ↦{fullShare} fk) ∗ (vtM.view.loc (c : Thread nD τ) ↦{fullShare} fv)
    ∗ (wqM.view.loc (c : Thread nD τ) ↦{fullShare} f1) ∗ (woM.view.loc (c : Thread nD τ) ↦{fullShare} f2)
    ∗ (dutyTok ER (kvCell c) 0 0 ∗ dutyTok ER (kvCell c) 0 1 ∗ reached ER (kvCell c) 0 ∗ atPos ER (kvCell c) 0 ∅ 0)
    ∗ gate c ∗ owes (c : Thread nD τ) (owed₀ c) W
    ∗ (flightA 0 0 0 c ∗ flightA 1 0 0 c ∗ flightA 0 1 0 c ∗ flightA 1 1 0 c)
    ∗ (flightA 0 0 1 c ∗ flightA 1 0 1 c ∗ flightA 0 1 1 c ∗ flightA 1 1 1 c)
    ∗ (flightA 0 0 2 c ∗ flightA 1 0 2 c ∗ flightA 0 1 2 c ∗ flightA 1 1 2 c))

/-- With the neighbour's slots at hand, a direction's six transfers can start. -/
theorem lane_open (d : Fin 2) :
    iprop(lane (F := F) d (nbr d c) ∗ flightA 0 d 0 c ∗ flightA 1 d 0 c ∗ flightA 0 d 1 c ∗ flightA 1 d 1 c ∗ flightA 0 d 2 c ∗ flightA 1 d 2 c)
      ⊢ iprop(flightB (F := F) 0 d 0 c ∗ flightB 1 d 0 c ∗ flightB 0 d 1 c ∗ flightB 1 d 1 c ∗ flightB 0 d 2 c ∗ flightB 1 d 2 c) := by
  unfold lane flightB
  iintro ⟨⟨⟨⟨H1, H2⟩, ⟨H3, H4⟩, ⟨H5, H6⟩⟩, ⟨⟨#R1, #R2⟩, ⟨#R3, #R4⟩, ⟨#R5, #R6⟩⟩⟩, A1, A2, A3, A4, A5, A6⟩
  iframe H1 H2 H3 H4 H5 H6 A1 A2 A3 A4 A5 A6 R1 R2 R3 R4 R5 R6

/-- A landing slot whose two shares are back is whole again. -/
theorem refill_q (d : Fin 2) (h : Fin 3) :
    iprop(held c (qS d h) fullShare.left (halfQ D d (org d h c)) ∗ held c (qS d h) fullShare.right (halfQ D d (org d h c))) ⊢ (hole (F := F) 0 d h c) := by
  rw [hole_q]
  refine (pointsTo_share (PosShare.mem_left_op_right fullShare)).2.trans ?_
  iintro H
  iexists _; iexact H
theorem refill_o (d : Fin 2) (h : Fin 3) :
    iprop(held c (oS d h) fullShare.left (halfO D d (org d h c)) ∗ held c (oS d h) fullShare.right (halfO D d (org d h c))) ⊢ (hole (F := F) 1 d h c) := by
  rw [hole_o]
  refine (pointsTo_share (PosShare.mem_left_op_right fullShare)).2.trans ?_
  iintro H
  iexists _; iexact H
/-- The share lent to the next hop comes back with the transfer. -/
theorem regain_q (d : Fin 2) (h h' : Fin 3) (hh : h.val = h'.val + 1) :
    iprop(held c (qS d h') fullShare.left (halfQ D d (org d h' c)) ∗ lent D 0 d h c) ⊢ (hole (F := F) 0 d h' c) := by
  rw [lent_next D 0 d h h' hh, slot_q]; exact refill_q D c d h'
theorem regain_o (d : Fin 2) (h h' : Fin 3) (hh : h.val = h'.val + 1) :
    iprop(held c (oS d h') fullShare.left (halfO D d (org d h' c)) ∗ lent D 1 d h c) ⊢ (hole (F := F) 1 d h' c) := by
  rw [lent_next D 1 d h h' hh, slot_o]; exact refill_o D c d h'

/-- What a device holds when its body has ended, the result's two batches at `a` and `b`. -/
def finish (X0 : S2x512x768.Idx → Elt F .f32) (X1 : S768x512.Idx → Elt F .f32) (X2 : S512x768.Idx → Elt F .f32) : sProp 𝕄 :=
  iprop((xM.view.loc (c : Thread nD τ) ↦{fullShare} X0) ∗ (wM.view.loc (c : Thread nD τ) ↦{fullShare} X1)
    ∗ (vM.view.loc (c : Thread nD τ) ↦{fullShare} X2) ∗ (yM.view.loc (c : Thread nD τ) ↦{fullShare} result D c X0)
    ∗ (khM.view.loc (c : Thread nD τ) ↦{fullShare} D.kk c) ∗ (vhM.view.loc (c : Thread nD τ) ↦{fullShare} D.vv c)
    ∗ (ktM.view.loc (c : Thread nD τ) ↦{fullShare} D.kk c) ∗ (vtM.view.loc (c : Thread nD τ) ↦{fullShare} D.vv c)
    ∗ (wqM.view.loc (c : Thread nD τ) ↦{fullShare} D.wq c) ∗ (woM.view.loc (c : Thread nD τ) ↦{fullShare} D.wo c)
    ∗ ((hole (F := F) 0 0 0 c ∗ hole (F := F) 1 0 0 c ∗ hole (F := F) 0 1 0 c ∗ hole (F := F) 1 1 0 c)
      ∗ (hole (F := F) 0 0 1 c ∗ hole (F := F) 1 0 1 c ∗ hole (F := F) 0 1 1 c ∗ hole (F := F) 1 1 1 c)
      ∗ (hole (F := F) 0 0 2 c ∗ hole (F := F) 1 0 2 c ∗ hole (F := F) 0 1 2 c ∗ hole (F := F) 1 1 2 c))
    ∗ (flightE 0 0 0 c ∗ flightE 1 0 0 c ∗ flightE 0 1 0 c ∗ flightE 1 1 0 c)
    ∗ (flightE 0 0 1 c ∗ flightE 1 0 1 c ∗ flightE 0 1 1 c ∗ flightE 1 1 1 c)
    ∗ (flightE 0 0 2 c ∗ flightE 1 0 2 c ∗ flightE 0 1 2 c ∗ flightE 1 1 2 c)
    ∗ atPos ER (kvCell c) (0 + 1) ∅ 0 ∗ atPos ER (barCell c) (0 + 1) ∅ 0 ∗ ow c 12)

/-- The result's window after its two last stores, each the whole sum of its batch. -/
theorem stored (p : Fin 2 → Vec F S1x512x768 .f32) (P0 P1 : Vec F S1x512x768 .f32) (Y : S2x512x768.Idx → Elt F .f32)
    (l : List (View.Piece (Elt F) S2x512x768 .f32)) (h0 : P0 = p 0) (h1 : P1 = p 1) :
    (yM.view.loc (c : Thread nD τ) ↦{fullShare} yM.view.writes (Elt F) Y (⟨rows1, P1⟩ :: ⟨rows0, P0⟩ :: l) : sProp 𝕄)
      ⊢ yM.view.loc (c : Thread nD τ) ↦{fullShare} stack p := by
  rw [h0, h1, writes_stack]

set_option maxHeartbeats 4000000 in
/-- The body runs from `start` to `finish`. -/
theorem body (X0 : S2x512x768.Idx → Elt F .f32) (X1 : S768x512.Idx → Elt F .f32) (X2 : S512x768.Idx → Elt F .f32) (Y : S2x512x768.Idx → Elt F .f32)
    (fk fv : S16x2x512x128.Idx → Elt F .bf16) (f1 : S768x512.Idx → Elt F .bf16) (f2 : S512x768.Idx → Elt F .bf16) (W : Waits sig Unit)
    (hq : D.wq c = k0_pay7 X1) (ho : D.wo c = k0_pay8 X2) (Q : _ → sProp 𝕄) :
    iprop(start D κ c X0 X1 X2 Y fk fv f1 f2 W ∗ (finish D c X0 X1 X2 -∗ Q ⟨⟩))
      ⊢ wp frame (wpE (defs₀ (F := F)) 𝒱₀ (c : Thread nD τ) none) Set.univ (onArgs (cc0_body (F := F))) Q := by
  unfold onArgs start
  rw [cc0_body_eq_skeleton]; unfold cc0_body_skel
  iintro ⟨⟨#HI, #Hlev, Hx, Hw, Hv, Hy, Hkh, Hvh, Hkt, Hvt, Hwq, Hwo, ⟨T0, T1, #Rkv, Akv⟩, Hg, HO,
    ⟨A000, A100, A010, A110⟩, ⟨A001, A101, A011, A111⟩, ⟨A002, A102, A012, A112⟩⟩, Hk⟩
  rw [wp_bind, k0_part108_eq_skeleton]; unfold k0_part108_skel
  rw [wp_bind]
  iapply (part1 D κ c fk fv)
  isplitl [Hkh Hvh Hkt Hvt T0 T1]
  · iframe HI Hkh Hvh Hkt Hvt T0 T1 Rkv
  iintro %w2 %w14 %w25 ⟨C0, C1⟩
  set_option sl_exec.resultNames true in
  set_option sl_exec.stopBefore "k0_part3" in sl_exec_parts
  rw [wp_bind]
  iapply (part3 D κ c w14 w25 _ X0 X1 X2 hq ho f1 f2 W)
  isplitl [Hx Hw Hv Hwq Hwo Hg HO]
  · iframe HI Hlev Hx Hw Hv Hwq Hwo Hg HO
  iintro ⟨Hx, Hw, Hv, ⟨Hwq, N000, N010⟩, ⟨Hwo, N100, N110⟩, HO, Abar, L0, L1⟩
  ihave HB := (lane_open c 0) $$ [L0 A000 A100 A001 A101 A002 A102]
  · iframe L0 A000 A100 A001 A101 A002 A102
  icases HB with ⟨B000, B100, B001, B101, B002, B102⟩
  ihave HB := (lane_open c 1) $$ [L1 A010 A110 A011 A111 A012 A112]
  · iframe L1 A010 A110 A011 A111 A012 A112
  icases HB with ⟨B010, B110, B011, B111, B012, B112⟩
  rw [wp_bind]
  iapply (part4 D κ c w14 w25)
  isplitl [B000 N000 B100 N100 B010 N010 HO]
  · iframe HI B000 N000 B100 N100 B010 N010 HO
  iintro ⟨C000, C100, C010, HO⟩
  rw [wp_bind]
  iapply (part5 D κ c w2 w14)
  isplitl [B110 N110 HO Akv C0 C1 Hwq Hwo]
  · iframe HI Hlev B110 N110 HO Akv C0 C1 Hwq Hwo
  iintro %w %w' ⟨C110, HO, Akv, Hkt, Hvt, Hkh, Hvh, Hwq, Hwo⟩
  have s00 := loads_q 0 0
  have s01 := loads_q 0 1
  have s02 := loads_q 0 2
  have s10 := loads_q 1 0
  have s11 := loads_q 1 1
  have s12 := loads_q 1 2
  have r00 := loads_o 0 0
  have r01 := loads_o 0 1
  have r02 := loads_o 0 2
  have r10 := loads_o 1 0
  have r11 := loads_o 1 1
  have r12 := loads_o 1 2
  set_option sl_exec.resultNames true in
  set_option sl_exec.stopBefore "k0_part27" in sl_exec_parts
  rw [wp_bind]
  iapply (part27 D κ c w25)
  isplitl [C000 C100 B001 HO]
  · iframe HI Hlev C000 C100 B001 HO
  iintro ⟨D000, D100, C001, HO, LQ00, LO00, RO00⟩
  rw [wp_bind]
  iapply (part28 D κ c w14 w25 1#32)
  isplitl [RO00 B101 C010 C110 HO]
  · iframe HI Hlev RO00 B101 C010 C110 HO
  iintro ⟨C101, D010, D110, HO, LQ10, RQ10, LO10, RO10⟩
  rw [wp_bind]
  iapply (part29 D κ c w2 w14)
  isplitl [RQ10 RO10 B011 B111 HO]
  · iframe HI RQ10 RO10 B011 B111 HO
  iintro %y1 %y2 %y3 %y4 %y5 ⟨C011, C111, HO⟩
  set_option sl_exec.resultNames true in
  set_option sl_exec.stopBefore "k0_part53" in sl_exec_parts
  rw [wp_bind]
  iapply (part53 D κ c w25 _ Y)
  isplitl [Hy C001 C101 HO]
  · iframe HI Hlev Hy C001 C101 HO
  iintro ⟨Hy, D001, D101, HO, LQ01, RQ01, LO01, RO01⟩
  rw [wp_bind]
  iapply (part54 D κ c w14 w25)
  isplitl [RQ01 RO01 B002 B102 HO]
  · iframe HI RQ01 RO01 B002 B102 HO
  iintro ⟨C002, C102, HO⟩
  rw [wp_bind]
  iapply (part55 D κ c w14)
  isplitl [C011 C111 B012 HO]
  · iframe HI Hlev C011 C111 B012 HO
  iintro ⟨D011, D111, C012, HO, LQ11, LO11, RO11⟩
  rw [wp_bind]
  iapply (part56 D κ c w2 w14 _)
  isplitl [RO11 B112 HO LQ01 LO01]
  · iframe HI RO11 B112 HO LQ01 LO01
  iintro %z1 ⟨C112, HO, LQ01, LO01⟩
  set_option sl_exec.resultNames true in
  set_option sl_exec.stopBefore "k0_part80" in sl_exec_parts
  rw [wp_bind]
  iapply (part80 D κ c w14 w25)
  isplitl [C002 C102 C012 HO]
  · iframe HI Hlev C002 C102 C012 HO
  iintro ⟨D002, D102, D012, HO, LQ02, RQ02, LO02, RO02, LQ12, RQ12⟩
  rw [wp_bind]
  iapply (part81 D κ c w2 w14 _)
  isplitl [C112 HO LQ02 LO02]
  · iframe HI Hlev C112 HO LQ02 LO02
  iintro %z2 %z3 %z4 %z5 ⟨D112, HO, LO12, RO12, LQ02, LO02⟩
  set_option sl_exec.resultNames true in
  set_option sl_exec.stopBefore "k0_part104" in sl_exec_parts
  rw [wp_bind]
  iapply (part104 D κ c _ _ _ _ _ _ _ _ _ _ _ _ Y)
  isplitl [Hy D000 HO]
  · iframe HI Hy D000 HO
  iintro ⟨Hy, E000, N000, HO⟩
  rw [wp_bind]
  iapply (part105 D κ c)
  isplitl [D100 D010 D110 HO]
  · iframe HI D100 D010 D110 HO
  iintro ⟨⟨E100, E010, E110⟩, ⟨N100, N010, N110⟩, HO⟩
  rw [wp_bind]
  iapply (part106 D κ c)
  isplitl [D001 D101 D011 HO]
  · iframe HI D001 D101 D011 HO
  iintro ⟨⟨E001, E101, E011⟩, ⟨N001, N101, N011⟩, HO⟩
  rw [wp_bind]
  iapply (part107 D κ c)
  isplitl [D111 D002 D102 HO]
  · iframe HI D111 D002 D102 HO
  iintro ⟨⟨E111, E002, E102⟩, ⟨N111, N002, N102⟩, HO⟩
  iapply (wp_depart D κ 0 1 2 c (src := qS 1 2) (dst := qS 1 1) (credit_q _)) $$ [D012 HO]
  · iframe HI D012 HO
  iintro ⟨E012, N012, HO⟩
  rw [ret_bind]
  sl_exec
  iapply (wp_depart D κ 1 1 2 c (src := oS 1 2) (dst := oS 1 1) (credit_o _)) $$ [D112 HO]
  · iframe HI D112 HO
  iintro ⟨E112, N112, HO⟩
  sl_step
  ihave Hwq := (lend_q D c).2 $$ [Hwq N000 N010]
  · iframe Hwq N000 N010
  ihave Hwo := (lend_o D c).2 $$ [Hwo N100 N110]
  · iframe Hwo N100 N110
  ihave G000 := (regain_q D c 0 1 0 rfl) $$ [LQ00 N001]
  · iframe LQ00 N001
  ihave G100 := (regain_o D c 0 1 0 rfl) $$ [LO00 N101]
  · iframe LO00 N101
  ihave G010 := (regain_q D c 1 1 0 rfl) $$ [LQ10 N011]
  · iframe LQ10 N011
  ihave G110 := (regain_o D c 1 1 0 rfl) $$ [LO10 N111]
  · iframe LO10 N111
  ihave G001 := (regain_q D c 0 2 1 rfl) $$ [LQ01 N002]
  · iframe LQ01 N002
  ihave G101 := (regain_o D c 0 2 1 rfl) $$ [LO01 N102]
  · iframe LO01 N102
  ihave G011 := (regain_q D c 1 2 1 rfl) $$ [LQ11 N012]
  · iframe LQ11 N012
  ihave G111 := (regain_o D c 1 2 1 rfl) $$ [LO11 N112]
  · iframe LO11 N112
  ihave G002 := (refill_q D c 0 2) $$ [LQ02 RQ02]
  · iframe LQ02 RQ02
  ihave G102 := (refill_o D c 0 2) $$ [LO02 RO02]
  · iframe LO02 RO02
  ihave G012 := (refill_q D c 1 2) $$ [LQ12 RQ12]
  · iframe LQ12 RQ12
  ihave G112 := (refill_o D c 1 2) $$ [LO12 RO12]
  · iframe LO12 RO12
  iapply Hk
  unfold finish
  iframe Hx Hw Hv Hkh Hvh Hkt Hvt Hwq Hwo E000 E100 E010 E110 E001 E101 E011 E111 E002 E102 E012 E112 Akv Abar HO G000 G100 G010 G110 G001 G101 G011 G111 G002 G102 G012 G112
  unfold result
  iapply (stored c (total D c X0) _ _ Y _ ?first ?second) $$ Hy
  case first =>
    exact more0 (hop D c X0 0 1 2) (more0 (hop D c X0 0 0 2) (more0 (hop D c X0 0 1 1) (more0 (hop D c X0 0 0 1) (more0 (hop D c X0 0 1 0)
      (more0 (hop D c X0 0 0 0) rfl)))))
  case second =>
    exact plus (hop D c X0 1 1 2) (more1 (hop D c X0 1 0 2) (more1 (hop D c X0 1 1 1) (more1 (hop D c X0 1 0 1) (plus (hop D c X0 1 1 0)
      (more1 (hop D c X0 1 0 0) rfl)))))

end Cert.KernelIdeal.Ring
-- ==== Proof.KernelIdeal.Cells.lean ====
/-
# A device's counters and landing buffers, taken together and one by one

A device's 25 counters are the arrival and departure counter of each of its twelve transfers and the one of its local
copies. Before the kernel's body they are opened, after it they are closed. The two landing buffers are cut into their
six slots each, and put together again.
-/
module

public import proofs.«01_k».proof.Proof.KernelIdeal.Body
public import Idealize.ShloMosaic.Lib.Ring.FamCut

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (D : Data F) (κ : GSem nD τ sig → ℕ) (c : Dev nD)

/-! ## The twelve transfers as one family -/

/-- A transfer's hop, direction and kind. -/
abbrev J : Type := Fin 3 × Fin 2 × Fin 2

theorem bigSep_more {I : Type} [DecidableEq I] {s : Finset I} {i : I} (hi : i ∉ s) (Φ : I → sProp (MT nD τ sig Unit (Elt F) ℕ UU ℕ)) :
    bigSep (insert i s) Φ = iprop(Φ i ∗ bigSep s Φ) := BI.bigSep_insert hi

theorem bigSep_three (Φ : Fin 3 → sProp (MT nD τ sig Unit (Elt F) ℕ UU ℕ)) : bigSep Finset.univ Φ = iprop(Φ 0 ∗ Φ 1 ∗ Φ 2) := by
  rw [show (Finset.univ : Finset (Fin 3)) = {0, 1, 2} by decide, bigSep_more (by decide), bigSep_more (by decide), bigSep_singleton]

theorem bigSep_J (Φ : Fin 2 → Fin 2 → Fin 3 → sProp (MT nD τ sig Unit (Elt F) ℕ UU ℕ)) : bigSep Finset.univ (fun j : J => Φ j.2.2 j.2.1 j.1)
    = iprop(((Φ 0 0 0 ∗ Φ 1 0 0) ∗ (Φ 0 1 0 ∗ Φ 1 1 0)) ∗ ((Φ 0 0 1 ∗ Φ 1 0 1) ∗ (Φ 0 1 1 ∗ Φ 1 1 1)) ∗ ((Φ 0 0 2 ∗ Φ 1 0 2) ∗ (Φ 0 1 2 ∗ Φ 1 1 2))) := by
  have h3 (h : Fin 3) : bigSep Finset.univ (fun q : Fin 2 × Fin 2 => Φ q.2 q.1 h) = iprop((Φ 0 0 h ∗ Φ 1 0 h) ∗ (Φ 0 1 h ∗ Φ 1 1 h)) := by
    rw [bigSep_univ_prod, bigSep_two]; dsimp only; rw [bigSep_two, bigSep_two]
  rw [bigSep_univ_prod, bigSep_three]; dsimp only; rw [h3, h3, h3]

set_option backward.proofsInPublic true in
/-- The position of a transfer's counter among the device's 25: departure (`false`) or arrival (`true`). -/
def place (x : J × Bool) : Fin 25 := ⟨12 * x.1.2.2.val + 3 * x.1.2.1.val + x.1.1.val + (if x.2 then 6 else 0), by
  have := x.1.2.2.2; have := x.1.2.1.2; have := x.1.1.2; split <;> omega⟩
set_option backward.proofsInPublic true in
theorem place_inj : Function.Injective place := by decide
set_option backward.proofsInPublic true in
theorem places : (Finset.univ : Finset (Fin 25)) = insert 24 (Finset.univ.map ⟨place, place_inj⟩) := by decide
theorem osem_place_snd (t d : Fin 2) (h : Fin 3) : osem (place ((h, d, t), false)) = .dma (sndS t d h) := by revert t d h; decide
theorem osem_place_rcv (t d : Fin 2) (h : Fin 3) : osem (place ((h, d, t), true)) = .dma (rcvS t d h) := by revert t d h; decide

/-- A family over the 25 counters is one over the transfers' and the local copies' own. -/
theorem bigSep_own (Ψ : SemLoc sig → sProp (MT nD τ sig Unit (Elt F) ℕ UU ℕ)) : bigSep Finset.univ (fun k : Fin 25 => Ψ (osem k))
    = iprop(Ψ (.dma kvS) ∗ bigSep Finset.univ (fun j : J => iprop(Ψ (.dma (sndS j.2.2 j.2.1 j.1)) ∗ Ψ (.dma (rcvS j.2.2 j.2.1 j.1))))) := by
  rw [places, bigSep_more (by decide), bigSep_map, bigSep_univ_prod]
  congr 1
  refine congrArg (bigSep Finset.univ) (funext fun j => ?_)
  rw [show (Finset.univ : Finset Bool) = {false, true} by decide, bigSep_more (by decide), bigSep_singleton]
  show iprop(Ψ (osem (place (j, false))) ∗ Ψ (osem (place (j, true)))) = _
  rw [show j = (j.1, j.2.1, j.2.2) from rfl, osem_place_snd, osem_place_rcv]

/-! ## Opening and closing -/

/-- All of a device's own counters, opened at once. -/
theorem open_all : iprop(recs D κ ∗ bigSep Finset.univ (fun k : Fin 25 => openTok ER ((c : Thread nD τ), osem k)) ∗ Pipeline.ownSems0 osem c)
    ⊢ (iprop(|={Set.univ}=> bigSep Finset.univ (fun k : Fin 25 => iprop(atPos ER ((c : Thread nD τ), osem k) 0 ∅ 0 ∗ reached ER ((c : Thread nD τ), osem k) 0))) : sProp 𝕄) := by
  unfold Pipeline.ownSems0
  rw [← bigSep_sep']
  refine BIBase.Entails.trans ?_ (bigSep_fupd _ _)
  refine bigSep_with_persistent (R := recs D κ) fun k _ => ?_
  iintro ⟨#HI, Ho, Hv⟩
  iapply (Rounds.cell_open ER (rd D) (g := ((c : Thread nD τ), osem k)) (Set.mem_univ (κ ((c : Thread nD τ), osem k))))
  isplitr; · iapply (inv_at D κ (mem_own c k)); iexact HI
  isplitl [Ho] <;> iassumption

/-- One counter closed after its round. -/
theorem close_one {g : GSem nD τ sig} (hg : g ∈ (barCells ∪ ownCells : Finset (GSem nD τ sig))) :
    iprop(recs D κ ∗ atPos ER g (0 + 1) ∅ 0) ⊢ (iprop(|={Set.univ}=> semVal g 0) : sProp 𝕄) :=
  (sep_mono_left (inv_at D κ hg)).trans (Rounds.cell_close ER (rd D) (Set.mem_univ (κ g)) (fun h => h) (R := 0 + 1) (duties_later D g))

/-- All of them closed at once. -/
theorem close_all : iprop(recs D κ ∗ atPos ER (kvCell c) (0 + 1) ∅ 0 ∗ bigSep Finset.univ (fun j : J => flightE j.2.2 j.2.1 j.1 c))
    ⊢ (iprop(|={Set.univ}=> Pipeline.ownSems0 osem c) : sProp 𝕄) := by
  unfold Pipeline.ownSems0 flightE
  rw [← bigSep_own (F := F) (fun sm => atPos ER ((c : Thread nD τ), sm) (0 + 1) ∅ 0)]
  refine BIBase.Entails.trans ?_ (bigSep_fupd _ _)
  exact bigSep_with_persistent (R := recs D κ) fun k _ => close_one D κ (mem_own c k)

/-! ## The landing buffers -/

/-- A slot's elements are those whose first two coordinates are its own. -/
theorem slotQ_mem (d : Fin 2) (h : Fin 3) (i : S2x3x768x256.Idx) (hi : i ∈ (qS d h).view.set) : (i 0).val = d.val ∧ (i 1).val = h.val := by
  have hi : i ∈ (((View.whole cc0_scratch4).slice (Rect.unit (s := S2x3x768x256) ![d.val, h.val, 0, 0] S1x1x768x256.size (inb_qS d h))).reshape S768x256 squeezes_S1x1x768x256_S768x256.numel_eq).set := hi
  rw [View.set_reshape, View.set_slice_whole, Rect.mem_set_unit] at hi
  have h0 : d.val ≤ (i 0).val ∧ (i 0).val < d.val + 1 := hi 0
  have h1 : h.val ≤ (i 1).val ∧ (i 1).val < h.val + 1 := hi 1
  omega
theorem slotO_mem (d : Fin 2) (h : Fin 3) (i : S2x3x256x768.Idx) (hi : i ∈ (oS d h).view.set) : (i 0).val = d.val ∧ (i 1).val = h.val := by
  have hi : i ∈ (((View.whole cc0_scratch5).slice (Rect.unit (s := S2x3x256x768) ![d.val, h.val, 0, 0] S1x1x256x768.size (inb_oS d h))).reshape S256x768 squeezes_S1x1x256x768_S256x768.numel_eq).set := hi
  rw [View.set_reshape, View.set_slice_whole, Rect.mem_set_unit] at hi
  have h0 : d.val ≤ (i 0).val ∧ (i 0).val < d.val + 1 := hi 0
  have h1 : h.val ≤ (i 1).val ∧ (i 1).val < h.val + 1 := hi 1
  omega

abbrev setQ (p : Fin 3 × Fin 2) : Finset (Idx (qcM.view.loc (c : Thread nD τ))) := (qS p.2 p.1).view.set
abbrev setO (p : Fin 3 × Fin 2) : Finset (Idx (ocM.view.loc (c : Thread nD τ))) := (oS p.2 p.1).view.set
theorem setQ_apart (p p' : Fin 3 × Fin 2) (hne : p ≠ p') : Disjoint (setQ c p) (setQ c p') :=
  Finset.disjoint_left.mpr fun i hi hi' => hne (by
    have h := slotQ_mem p.2 p.1 i hi; have h' := slotQ_mem p'.2 p'.1 i hi'
    exact Prod.ext (Fin.ext (h.2.symm.trans h'.2)) (Fin.ext (h.1.symm.trans h'.1)))
theorem setO_apart (p p' : Fin 3 × Fin 2) (hne : p ≠ p') : Disjoint (setO c p) (setO c p') :=
  Finset.disjoint_left.mpr fun i hi hi' => hne (by
    have h := slotO_mem p.2 p.1 i hi; have h' := slotO_mem p'.2 p'.1 i hi'
    exact Prod.ext (Fin.ext (h.2.symm.trans h'.2)) (Fin.ext (h.1.symm.trans h'.1)))

/-- What no slot covers of the two landing buffers. -/
def scrap : sProp 𝕄 :=
  iprop((∃ f : Buf (Elt F) (qcM.view.loc (c : Thread nD τ)), qcM.view.loc (c : Thread nD τ) ↦[Idealize.ShloMosaic.Ring.restOf (setQ c)]{fullShare} f)
    ∗ (∃ f : Buf (Elt F) (ocM.view.loc (c : Thread nD τ)), ocM.view.loc (c : Thread nD τ) ↦[Idealize.ShloMosaic.Ring.restOf (setO c)]{fullShare} f))

theorem holes_eq : bigSep Finset.univ (fun j : J => hole (F := F) j.2.2 j.2.1 j.1 c)
    = iprop(bigSep Finset.univ (fun p : Fin 3 × Fin 2 => iprop(∃ f : Buf (Elt F) (qcM.view.loc (c : Thread nD τ)), qcM.view.loc (c : Thread nD τ) ↦[setQ c p]{fullShare} f))
      ∗ bigSep Finset.univ (fun p : Fin 3 × Fin 2 => iprop(∃ f : Buf (Elt F) (ocM.view.loc (c : Thread nD τ)), ocM.view.loc (c : Thread nD τ) ↦[setO c p]{fullShare} f))) := by
  rw [← bigSep_sep']
  rw [bigSep_univ_equiv (Equiv.prodAssoc (Fin 3) (Fin 2) (Fin 2)) (fun j : J => hole (F := F) j.2.2 j.2.1 j.1 c), bigSep_univ_prod]
  refine congrArg (bigSep Finset.univ) (funext fun p => ?_)
  rw [bigSep_two]
  rfl

/-- The landing buffers are their twelve slots and the scrap. -/
theorem cut : iprop((∃ f : Buf (Elt F) (qcM.view.loc (c : Thread nD τ)), qcM.view.loc (c : Thread nD τ) ↦{fullShare} f)
      ∗ (∃ f : Buf (Elt F) (ocM.view.loc (c : Thread nD τ)), ocM.view.loc (c : Thread nD τ) ↦{fullShare} f))
    ⊢ (iprop(bigSep Finset.univ (fun j : J => hole (F := F) j.2.2 j.2.1 j.1 c) ∗ scrap c) : sProp 𝕄) := by
  rw [holes_eq]; unfold scrap
  refine (BIClass.sep_mono (Idealize.ShloMosaic.Ring.fam_split_ex (setQ c) (setQ_apart c)) (Idealize.ShloMosaic.Ring.fam_split_ex (setO c) (setO_apart c))).trans ?_
  iintro ⟨⟨H1, H2⟩, ⟨H3, H4⟩⟩
  isplitl [H1 H3]; · isplitl [H1] <;> iassumption
  isplitl [H2] <;> iassumption
theorem mend (f₀ : Buf (Elt F) (qcM.view.loc (c : Thread nD τ))) (g₀ : Buf (Elt F) (ocM.view.loc (c : Thread nD τ))) :
    iprop(bigSep Finset.univ (fun j : J => hole (F := F) j.2.2 j.2.1 j.1 c) ∗ scrap c)
    ⊢ (iprop((∃ f : Buf (Elt F) (qcM.view.loc (c : Thread nD τ)), qcM.view.loc (c : Thread nD τ) ↦{fullShare} f)
      ∗ (∃ f : Buf (Elt F) (ocM.view.loc (c : Thread nD τ)), ocM.view.loc (c : Thread nD τ) ↦{fullShare} f)) : sProp 𝕄) := by
  rw [holes_eq]; unfold scrap
  refine BIBase.Entails.trans ?_ (BIClass.sep_mono (Idealize.ShloMosaic.Ring.fam_join (setQ c) (setQ_apart c) f₀) (Idealize.ShloMosaic.Ring.fam_join (setO c) (setO_apart c) g₀))
  iintro ⟨⟨H1, H3⟩, ⟨H2, H4⟩⟩
  isplitl [H1 H2]; · isplitl [H1] <;> iassumption
  isplitl [H3] <;> iassumption

end Cert.KernelIdeal.Ring

end
-- ==== Proof.KernelIdeal.Region.lean ====
/-
# The kernel's call on one device

What a device brings to the call, what it takes away, and that the body leads from one to the other.
-/
module

public import proofs.«01_k».proof.Proof.KernelIdeal.Cells
public import proofs.«01_k».proof.Proof.Gen.KernelIdeal.Points
public import proofs.«01_k».proof.Proof.Gen.KernelIdeal.Regions

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The contents -/

/-- The weights, rounded, and the keys and values as each device finds them when the kernel is called. -/
def data : Data F where
  wq c := k0_pay7 (V1 m c main_arg1)
  wo c := k0_pay8 (V1 m c main_arg4)
  kk c := V1 m c main_v12
  vv c := V1 m c main_v20

abbrev X0 (c : Dev nD) : S2x512x768.Idx → Elt F .f32 := V1 m c main_arg0
abbrev X1 (c : Dev nD) : S768x512.Idx → Elt F .f32 := V1 m c main_arg1
abbrev X2 (c : Dev nD) : S512x768.Idx → Elt F .f32 := V1 m c main_arg4
/-- What the kernel leaves on device `c`. -/
abbrev res (c : Dev nD) : S2x512x768.Idx → Elt F .f32 := result (data m) c (X0 m c)

/-- What the region leaves: the result, everything else as it was. -/
def outs : Outs (F := F) := fun _ r c => (Function.update (V1 m c) main_v21 (res m c)) r

theorem V2_eq (c : Dev nD) : V2 m (outs m) c = Function.update (V1 m c) main_v21 (res m c) := by
  have e1 : outs m 2 main_v21 c = res m c := Function.update_self ..
  have e2 : outs m 2 main_v12 c = Function.update (V1 m c) main_v21 (res m c) main_v12 := rfl
  have e3 : outs m 2 main_v20 c = Function.update (V1 m c) main_v21 (res m c) main_v20 := rfl
  show Function.update (Function.update (Function.update (V1 m c) main_v21 (outs m 2 main_v21 c)) main_v12 (outs m 2 main_v12 c)) main_v20 (outs m 2 main_v20 c) = _
  rw [e1, e2, e3, Function.update_eq_self, Function.update_eq_self]
theorem V2_res (c : Dev nD) : V2 m (outs m) c main_v21 = res m c := by rw [V2_eq]; exact Function.update_self ..
theorem V2_rest (c : Dev nD) (b : DevRef τ sig) (hb : b ≠ main_v21) : V2 m (outs m) c b = V1 m c b := by
  rw [V2_eq]; exact Function.update_of_ne hb ..

/-! ## What travels beside the windows -/

/-- The keys' and values' arrays, which the kernel copies from. -/
def Hs : Finset (DevRef τ sig) := {Proc.devRef .tc main_v12, Proc.devRef .tc main_v20}
theorem held_Hs (c : Dev nD) (W : Valuation τ sig (Elt F)) : (StableHlo.held (c : Thread nD τ) Hs W : sProp 𝕄)
    = iprop((khM.view.loc (c : Thread nD τ) ↦{fullShare} W main_v12) ∗ (vhM.view.loc (c : Thread nD τ) ↦{fullShare} W main_v20)) := by
  unfold StableHlo.held Hs
  rw [bigSep_more (by decide), bigSep_singleton]

/-- The barrier's side of a device: its credit and position, and a token at either neighbour. -/
def door (c : Dev nD) : sProp 𝕄 :=
  iprop(cred (tallyAt (barCell c) () 2) ∗ atPos ER (barCell c) 0 ∅ 0
    ∗ (dutyTok ER (barCell (nbr 1 c)) 0 0 ∗ reached ER (barCell (nbr 1 c)) 0) ∗ (dutyTok ER (barCell (nbr 0 c)) 0 1 ∗ reached ER (barCell (nbr 0 c)) 0))
/-- A transfer's two tokens and the credit of its namesake's arrival. -/
def ticket (t d : Fin 2) (h : Fin 3) (c : Dev nD) : sProp 𝕄 :=
  iprop((dutyTok ER (sndCell t d h c) 0 0 ∗ dutyTok ER (rcvCell t d h (nbr d c)) 0 0) ∗ cred (tallyAt (rcvCell t d h c) () (amt t)))
/-- What a device is dealt at launch. -/
def deal (c : Dev nD) : sProp 𝕄 :=
  iprop(bigSep Finset.univ (fun k : Fin 25 => openTok ER ((c : Thread nD τ), osem k)) ∗ door c
    ∗ (dutyTok ER (kvCell c) 0 0 ∗ dutyTok ER (kvCell c) 0 1) ∗ bigSep Finset.univ (fun j : J => ticket j.2.2 j.2.1 j.1 c))
def Tk (c : Dev nD) : sProp 𝕄 := iprop(∃ κ : GSem nD τ sig → ℕ, recs (data m) κ ∗ deal c)
/-- The same with the device's counters open. -/
def Xk (c : Dev nD) : sProp 𝕄 :=
  iprop(∃ κ : GSem nD τ sig → ℕ, recs (data m) κ ∗ levAts L lv ∗ door c
    ∗ (dutyTok ER (kvCell c) 0 0 ∗ dutyTok ER (kvCell c) 0 1 ∗ reached ER (kvCell c) 0 ∗ atPos ER (kvCell c) 0 ∅ 0)
    ∗ bigSep Finset.univ (fun j : J => iprop(flightA j.2.2 j.2.1 j.1 c ∗ reached ER (rcvCell j.2.2 j.2.1 j.1 c) 0)))
def Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  unfold Tk Xk deal
  iintro ⟨⟨%κ, #HI, Ho, Hd, ⟨T0, T1⟩, Ht⟩, Hs, #Hlev⟩
  imod (open_all (data m) κ c) $$ [Ho Hs] with H
  · isplitr; · iexact HI
    isplitl [Ho] <;> iassumption
  ihave H' := (Entails.of_eq (bigSep_own (F := F) (fun sm => iprop(atPos ER ((c : Thread nD τ), sm) 0 ∅ 0 ∗ reached ER ((c : Thread nD τ), sm) 0)))) $$ H
  icases H' with ⟨⟨Akv, #Rkv⟩, HJ⟩
  imodintro
  iexists κ
  isplitr; · iexact HI
  isplitr; · iexact Hlev
  isplitl [Hd]; · iexact Hd
  isplitl [T0 T1 Akv]
  · iframe T0 T1 Rkv Akv
  have hj : iprop(bigSep Finset.univ (fun j : J => ticket (F := F) j.2.2 j.2.1 j.1 c)
      ∗ bigSep Finset.univ (fun j : J => iprop((atPos ER (sndCell j.2.2 j.2.1 j.1 c) 0 ∅ 0 ∗ reached ER (sndCell j.2.2 j.2.1 j.1 c) 0)
        ∗ (atPos ER (rcvCell j.2.2 j.2.1 j.1 c) 0 ∅ 0 ∗ reached ER (rcvCell j.2.2 j.2.1 j.1 c) 0))))
      ⊢ (bigSep Finset.univ (fun j : J => iprop(flightA j.2.2 j.2.1 j.1 c ∗ reached ER (rcvCell j.2.2 j.2.1 j.1 c) 0)) : sProp 𝕄) := by
    rw [← bigSep_sep']
    refine bigSep_mono fun j _ => ?_
    show (_ : sProp 𝕄) ⊢ _
    unfold ticket flightA
    iintro ⟨⟨⟨T, T'⟩, C⟩, ⟨A, #R⟩, ⟨A', #R'⟩⟩
    iframe T T' A A' C R R'
  iapply hj
  isplitl [Ht] <;> iassumption

/-- Before and after the one grid point. -/
def P₀ (c : Dev nD) : sProp 𝕄 :=
  iprop(Pipeline.scopedRest spec0 c ∗ (∃ r, prngReg c r) ∗ StableHlo.held (c : Thread nD τ) Hs (V1 m c) ∗ Xk m c)
def P₁ (c : Dev nD) : sProp 𝕄 :=
  iprop(Pipeline.scopedRest spec0 c ∗ (∃ r, prngReg c r) ∗ StableHlo.held (c : Thread nD τ) Hs (V1 m c) ∗ Pipeline.ownSems0 osem c ∗ Yk c)

/-! ## The body, with what travels beside the windows -/

/-- The slots of either direction with the arrival counters ready are the two lanes. -/
theorem lanes (c : Dev nD) : iprop(bigSep Finset.univ (fun j : J => hole (F := F) j.2.2 j.2.1 j.1 c)
      ∗ bigSep Finset.univ (fun j : J => iprop(flightA j.2.2 j.2.1 j.1 c ∗ reached ER (rcvCell j.2.2 j.2.1 j.1 c) 0)))
    ⊢ (iprop((lane 0 c ∗ lane 1 c) ∗ (flightA 0 0 0 c ∗ flightA 1 0 0 c ∗ flightA 0 1 0 c ∗ flightA 1 1 0 c)
      ∗ (flightA 0 0 1 c ∗ flightA 1 0 1 c ∗ flightA 0 1 1 c ∗ flightA 1 1 1 c)
      ∗ (flightA 0 0 2 c ∗ flightA 1 0 2 c ∗ flightA 0 1 2 c ∗ flightA 1 1 2 c)) : sProp 𝕄) := by
  rw [bigSep_J (fun t d h => hole (F := F) t d h c), bigSep_J (fun t d h => iprop(flightA (F := F) t d h c ∗ reached ER (rcvCell t d h c) 0))]
  unfold lane
  iintro ⟨⟨⟨⟨H1, H2⟩, ⟨H3, H4⟩⟩, ⟨⟨H5, H6⟩, ⟨H7, H8⟩⟩, ⟨⟨H9, H10⟩, ⟨H11, H12⟩⟩⟩,
    ⟨⟨⟨A1, #R1⟩, ⟨A2, #R2⟩⟩, ⟨⟨A3, #R3⟩, ⟨A4, #R4⟩⟩⟩, ⟨⟨⟨A5, #R5⟩, ⟨A6, #R6⟩⟩, ⟨⟨A7, #R7⟩, ⟨A8, #R8⟩⟩⟩, ⟨⟨⟨A9, #R9⟩, ⟨A10, #R10⟩⟩, ⟨⟨A11, #R11⟩, ⟨A12, #R12⟩⟩⟩⟩
  isplitl [H1 H2 H3 H4 H5 H6 H7 H8 H9 H10 H11 H12]
  · isplitl [H1 H2 H5 H6 H9 H10]
    · iframe H1 H2 H5 H6 H9 H10 R1 R2 R5 R6 R9 R10
    · iframe H3 H4 H7 H8 H11 H12 R3 R4 R7 R8 R11 R12
  iframe A1 A2 A3 A4 A5 A6 A7 A8 A9 A10 A11 A12

/-- The windows' contents around the body. -/
def wins (c : Dev nD) (Y : S2x512x768.Idx → Elt F .f32) : sProp 𝕄 :=
  iprop((xM.view.loc (c : Thread nD τ) ↦{fullShare} X0 m c) ∗ (wM.view.loc (c : Thread nD τ) ↦{fullShare} X1 m c)
    ∗ (vM.view.loc (c : Thread nD τ) ↦{fullShare} X2 m c) ∗ (yM.view.loc (c : Thread nD τ) ↦{fullShare} Y))

/-- What the body leaves, its counters closed and its buffers put together. -/
theorem settle (κ : GSem nD τ sig → ℕ) (c : Dev nD) :
    iprop(recs (data m) κ ∗ scrap c ∗ (∃ r, prngReg c r) ∗ finish (data m) c (X0 m c) (X1 m c) (X2 m c))
      ⊢ (iprop(|={Set.univ}=> (P₁ m c ∗ (∃ W, owes (c : Thread nD τ) 0 W) ∗ wins m c (res m c))) : sProp 𝕄) := by
  unfold finish
  iintro ⟨#HI, Hsc, Hp, Hx, Hw, Hv, Hy, Hkh, Hvh, Hkt, Hvt, Hwq, Hwo,
    ⟨⟨H1, H2, H3, H4⟩, ⟨H5, H6, H7, H8⟩, ⟨H9, H10, H11, H12⟩⟩, ⟨E1, E2, E3, E4⟩, ⟨E5, E6, E7, E8⟩, ⟨E9, E10, E11, E12⟩, Akv, Abar, HO⟩
  imod (close_all (data m) κ c) $$ [Akv E1 E2 E3 E4 E5 E6 E7 E8 E9 E10 E11 E12] with Hos
  · rw [bigSep_J (fun t d h => flightE (F := F) t d h c)]
    iframe HI Akv E1 E2 E3 E4 E5 E6 E7 E8 E9 E10 E11 E12
  imod (close_one (data m) κ (mem_bar c)) $$ [Abar] with Hb
  · isplitr; · iexact HI
    iexact Abar
  ihave Hm := (mend c (fun _ => Classical.choice inferInstance) (fun _ => Classical.choice inferInstance)) $$ [Hsc H1 H2 H3 H4 H5 H6 H7 H8 H9 H10 H11 H12]
  · rw [bigSep_J (fun t d h => hole (F := F) t d h c)]
    iframe Hsc H1 H2 H3 H4 H5 H6 H7 H8 H9 H10 H11 H12
  icases Hm with ⟨Hq, Ho⟩
  imodintro
  isplitl [Hq Ho Hkt Hvt Hwq Hwo Hp Hkh Hvh Hos Hb]
  · unfold P₁ Yk
    rw [scopedRest0_eq, held_Hs]
    isplitl [Hq Ho Hkt Hvt Hwq Hwo]
    · isplitl [Hwq]; · iexists _; iexact Hwq
      isplitl [Hwo]; · iexists _; iexact Hwo
      isplitl [Hkt]; · iexists _; iexact Hkt
      isplitl [Hvt]; · iexists _; iexact Hvt
      isplitl [Hq]; · iexact Hq
      iexact Ho
    isplitl [Hp]; · iexact Hp
    isplitl [Hkh Hvh]; · isplitl [Hkh]; · iexact Hkh
                         iexact Hvh
    isplitl [Hos] <;> iassumption
  isplitl [HO]; · unfold ow; rw [owed_end]; iexact HO
  unfold wins
  iframe Hx Hw Hv Hy

theorem run_body (c : Dev nD) (Y : S2x512x768.Idx → Elt F .f32) (W : Waits sig Unit) (Q : PUnit → sProp (MT nD τ sig Unit (Elt F) ℕ UU ℕ)) :
    iprop((P₀ m c ∗ owes (c : Thread nD τ) (owed₀ c) W ∗ wins m c Y) ∗ ((P₁ m c ∗ (∃ W, owes (c : Thread nD τ) 0 W) ∗ wins m c (res m c)) -∗ Q ⟨⟩))
      ⊢ wp frame (wpE (defs₀ (F := F)) 𝒱₀ (c : Thread nD τ) none) Set.univ (onArgs (cc0_body (F := F))) Q := by
  refine BIBase.Entails.trans ?_ (wp_fupd _ _ _ _ _)
  unfold P₀ Xk wins door
  rw [scopedRest0_eq, held_Hs]
  iintro ⟨⟨⟨⟨⟨%f1, Hwq⟩, ⟨%f2, Hwo⟩, ⟨%fk, Hkt⟩, ⟨%fv, Hvt⟩, Hqc, Hoc⟩, Hp, ⟨Hkh, Hvh⟩, ⟨%κ, #HI, #Hlev, ⟨Cb, Ab, ⟨D0, #R0⟩, ⟨D1, #R1⟩⟩, ⟨T0, T1, #Rkv, Akv⟩, HJ⟩⟩, HO, Hx, Hw, Hv, Hy⟩, Hk⟩
  ihave Hcut := (cut (F := F) c) $$ [Hqc Hoc]
  · isplitl [Hqc]; · iexact Hqc
    iexact Hoc
  icases Hcut with ⟨Hh, Hsc⟩
  ihave Hl := (lanes c) $$ [Hh HJ]
  · isplitl [Hh] <;> iassumption
  icases Hl with ⟨⟨L0, L1⟩, A0, A1, A2⟩
  iapply (body (data m) κ c (X0 m c) (X1 m c) (X2 m c) Y fk fv f1 f2 W rfl rfl)
  isplitr [Hk Hsc Hp]
  · unfold start gate
    iframe HI Hlev Hx Hw Hv Hy Hkh Hvh Hkt Hvt Hwq Hwo T0 T1 Rkv Akv Cb Ab D0 R0 L0 D1 R1 L1 HO A0 A1 A2
  iintro Hf
  imod (settle m κ c) $$ [Hf Hsc Hp] with H
  · isplitr; · iexact HI
    isplitl [Hsc]; · iexact Hsc
    isplitl [Hp]; · iexact Hp
    iexact Hf
  imodintro
  iapply Hk; iexact H

/-! ## The proof data of the region -/

open Idealize.ShloMosaic.Pipeline (Dat BodyObligation)

def dats (_ : Fin 1) (c : Dev nD) : Dat τ (Elt F) Unit ℕ UU ℕ cfg0 c where
  A w := V1 m c (Proc.devRef .tc (cfg0.win w).arr.view.ref)
  after w _ := match w with
    | ⟨0, _⟩ => X0 m c
    | ⟨1, _⟩ => X1 m c
    | ⟨2, _⟩ => X2 m c
    | ⟨3, _⟩ => res m c
  Φ t := match t with
    | ⟨0, _⟩ => P₀ m c
    | ⟨_ + 1, _⟩ => P₁ m c
  q _ := fullShare
  owed t := match t with
    | ⟨0, _⟩ => owed₀ c
    | ⟨_ + 1, _⟩ => 0

theorem owesAt_in (c : Dev nD) (t : Fin (cfg0.N + 1)) (O : CellTallies nD τ sig Unit) (h0 : (dats m 0 c).owed t = O) (W : Waits sig Unit) :
    (owes (c : Thread nD τ) O W : sProp 𝕄) ⊢ ((dats m 0 c).owesAt () t : sProp 𝕄) := by
  unfold Dat.owesAt Pipeline.owesWithin Dat.bound; rw [h0]
  iintro HO; iexists W; isplitr; · ipureintro; exact fun _ _ => Or.inl trivial
  iexact HO
theorem owesAt_out (c : Dev nD) (t : Fin (cfg0.N + 1)) (O : CellTallies nD τ sig Unit) (h0 : (dats m 0 c).owed t = O) :
    ((dats m 0 c).owesAt () t : sProp 𝕄) ⊢ iprop(∃ W, owes (c : Thread nD τ) O W) := by
  unfold Dat.owesAt Pipeline.owesWithin; rw [h0]
  iintro ⟨%W, -, HO⟩; iexists W; iexact HO

/-- A whole buffer owned at known contents. -/
theorem owns_whole_at (c : Dev nD) (b : Ref sig .tc) (X : b.ty.Contents (Elt F)) :
    (owns (Ix := Unit) (Name := ℕ) (U := UU) (Lvl := ℕ) (c : Thread nD τ) (Memref.whole b) fullShare X : sProp 𝕄)
      = iprop((Memref.whole b).view.loc (c : Thread nD τ) ↦{fullShare} X) := by
  unfold owns; simp only [Memref.view_whole, View.read_whole, View.set_whole]
  refine BI.equiv_iff.mp ⟨?_, ?_⟩
  · show (_ : sProp 𝕄) ⊢ _
    iintro ⟨%f, %h, H⟩; subst h; iexact H
  · show (_ : sProp 𝕄) ⊢ _
    iintro H; iexists X; isplitr; · ipureintro; rfl
    iexact H

end Cert.KernelIdeal.Ring

end
-- ==== Proof.KernelIdeal.Segment.lean ====
/-
# The call as a segment of the program

The body's obligation at the one grid point, and the record by which the call is entered and left.
-/
module

public import proofs.«01_k».proof.Proof.KernelIdeal.Region
public import Idealize.ShloMosaic.Lib.Pipeline.RegionTalk
public import Idealize.ShloMosaic.Lib.Pipeline.ValueKit

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

open Idealize.ShloMosaic.Pipeline (Dat BodyObligation)

/-- A window that is its whole array stages the array. -/
theorem staged (c : Dev nD) (w : Fin 4) (h : (cfg0.win w).fetch t0_0 = true)
    (hm : ∀ j, (cfg0.win w).moved (cfg0.grid.coords t0_0) j = true) (d) (j : (cfg0.win w).block.Idx) :
    (dats m 0 c).before w t0_0 d j = (dats m 0 c).blockOf w t0_0 (fun a => ⟨(j a).val, ((cfg0.win w).moved_iff _ j).mp (hm j) a⟩) := by
  unfold Dat.before; rw [if_pos h]
  unfold Dat.fetched Pipeline.Window.fill; rw [dif_pos (hm j)]

theorem before_x (c : Dev nD) (d) : (dats m 0 c).before (0 : Fin 4) t0_0 d = X0 m c := by
  funext j
  rw [staged m c 0 (fetch0_0 t0_0) fun j => ((cfg0.win 0).moved_iff _ j).mpr fun a => (j a).isLt]
  blk_ext [Dat.blockOf, show ∀ a, win0_0.index t0_0 a = 0 from fun _ => rfl]
theorem before_w (c : Dev nD) (d) : (dats m 0 c).before (1 : Fin 4) t0_0 d = X1 m c := by
  funext j
  rw [staged m c 1 (fetch0_1 t0_0) fun j => ((cfg0.win 1).moved_iff _ j).mpr fun a => (j a).isLt]
  blk_ext [Dat.blockOf, show ∀ a, win0_1.index t0_0 a = 0 from fun _ => rfl]
theorem before_v (c : Dev nD) (d) : (dats m 0 c).before (2 : Fin 4) t0_0 d = X2 m c := by
  funext j
  rw [staged m c 2 (fetch0_2 t0_0) fun j => ((cfg0.win 2).moved_iff _ j).mpr fun a => (j a).isLt]
  blk_ext [Dat.blockOf, show ∀ a, win0_2.index t0_0 a = 0 from fun _ => rfl]

set_option maxRecDepth 20000 in
theorem body_obligation (c : Dev nD) : BodyObligation (dats m 0 c) (defs₀ (F := F)) 𝒱₀ () Set.univ := fun t => by
  rw [fin_N0 t]
  rw [bigSep_W0, bigSep_W0]
  show iprop(P₀ m c ∗ (dats m 0 c).owesAt () t0_0.castSucc
      ∗ (∃ d, owns (c : Thread nD τ) xM fullShare ((dats m 0 c).before (0 : Fin 4) t0_0 d))
      ∗ (∃ d, owns (c : Thread nD τ) wM fullShare ((dats m 0 c).before (1 : Fin 4) t0_0 d))
      ∗ (∃ d, owns (c : Thread nD τ) vM fullShare ((dats m 0 c).before (2 : Fin 4) t0_0 d))
      ∗ (∃ d, owns (c : Thread nD τ) yM fullShare ((dats m 0 c).before (3 : Fin 4) t0_0 d)))
    ⊢ wp frame (wpE (defs₀ (F := F)) 𝒱₀ (c : Thread nD τ) none) Set.univ (onArgs (cc0_body (F := F))) (fun _ =>
      iprop(P₁ m c ∗ (dats m 0 c).owesAt () t0_0.succ
      ∗ owns (c : Thread nD τ) xM fullShare (X0 m c) ∗ owns (c : Thread nD τ) wM fullShare (X1 m c)
      ∗ owns (c : Thread nD τ) vM fullShare (X2 m c) ∗ owns (c : Thread nD τ) yM fullShare (res m c)))
  simp only [before_x, before_w, before_v, owns_whole_at]
  iintro ⟨HP, HO, ⟨%_, Hx⟩, ⟨%_, Hw⟩, ⟨%_, Hv⟩, ⟨%d, Hy⟩⟩
  ihave HO' := (owesAt_out m c t0_0.castSucc (owed₀ c) rfl) $$ HO
  icases HO' with ⟨%W, HO⟩
  iapply (run_body m c ((dats m 0 c).before (3 : Fin 4) t0_0 d) W)
  unfold wins
  isplitl [HP HO Hx Hw Hv Hy]
  · iframe HP HO Hx Hw Hv Hy
  iintro ⟨HP, ⟨%W', HO⟩, Hx, Hw, Hv, Hy⟩
  isplitl [HP]; · iexact HP
  isplitl [HO]; · iapply (owesAt_in m c t0_0.succ 0 rfl W') $$ HO
  iframe Hx Hw Hv Hy

/-! ## The record -/

/-- What the core owes at any point lies above the staging counters. -/
theorem owed_high (c : Dev nD) (t : Fin (cfg0.N + 1)) (g : GSem nD τ sig) (i : Unit) (h : 0 < (dats m 0 c).owed t g i) : i ∈ L g ∧ 0 < lv g i := by
  cases i
  have h' : 0 < owed₀ c g () := by
    obtain ⟨_ | n, ht⟩ := t
    · exact h
    · exact absurd h (lt_irrefl 0)
  obtain ⟨i, rfl⟩ | rfl | rfl := owed₀_pos h'
  · rw [L_tc, lv_rcv]; exact ⟨Finset.mem_singleton_self _, by omega⟩
  · rw [L_tc]; exact ⟨Finset.mem_singleton_self _, Nat.one_pos⟩
  · rw [L_tc]; exact ⟨Finset.mem_singleton_self _, Nat.one_pos⟩

theorem stage_low : ∀ (w : Fin 4) (s : Fin (cfg0.win w).nbuf), ((cfg0.win w).sem s : DmaSem sig).val < 4 := by decide
theorem lv_stage (c : Dev nD) (w : Fin 4) (s : Fin (cfg0.win w).nbuf) : lv ((c : Thread nD τ), .dma ((cfg0.win w).sem s)) () ≤ 0 := by
  dsimp only [lv]; rw [if_pos (Or.inr (stage_low w s))]

theorem arr_before (c : Dev nD) (w : Fin 4) : (dats m 0 c).arrAt w 0 = V1 m c (Proc.devRef .tc (Pipeline.arrRef spec0 w)) := rfl

theorem arr_out (c : Dev nD) : (dats m 0 c).arrAt (3 : Fin 4) cfg0.N = res m c := by
  refine (dats m 0 c).arrAt_eq_of_after_last (3 : Fin 4) t0_0 (by decide +kernel) _ fun j => ?_
  blk_ext [show ∀ a, win0_3.index t0_0 a = 0 from fun _ => rfl]

theorem arr_after (c : Dev nD) : ∀ w : Fin 4, (dats m 0 c).arrAt w cfg0.N = V2 m (outs m) c (Proc.devRef .tc (Pipeline.arrRef spec0 w))
  | ⟨0, _⟩ => ((dats m 0 c).arrAt_in (0 : Fin 4) rfl _).trans (V2_rest m c main_arg0 (by decide)).symm
  | ⟨1, _⟩ => ((dats m 0 c).arrAt_in (1 : Fin 4) rfl _).trans (V2_rest m c main_arg1 (by decide)).symm
  | ⟨2, _⟩ => ((dats m 0 c).arrAt_in (2 : Fin 4) rfl _).trans (V2_rest m c main_arg4 (by decide)).symm
  | ⟨3, _⟩ => (arr_out m c).trans (V2_res m c).symm

/-- The unscoped buffers that are no window's array. -/
abbrev Rs : Finset (DevRef τ sig) := Pipeline.ucRefs τ sig \ Pipeline.arrRefs (τ := τ) spec0

theorem arr_uc : Pipeline.arrRefs (τ := τ) spec0 ⊆ Pipeline.ucRefs τ sig := by decide
theorem Hs_rest : Hs ⊆ Rs := by decide
theorem res_arr : (Proc.devRef .tc main_v21 : DevRef τ sig) ∈ Pipeline.arrRefs (τ := τ) spec0 := by decide

theorem leave (c : Dev nD) : P₁ m c ⊢ iprop(Pipeline.scopedRest spec0 c ∗ (∃ r, prngReg c r)
    ∗ StableHlo.held (c : Thread nD τ) Hs (V2 m (outs m) c) ∗ Pipeline.ownSems0 osem c ∗ Yk c) := by
  unfold P₁
  rw [held_Hs, held_Hs, V2_rest m c main_v12 (by decide), V2_rest m c main_v20 (by decide)]

set_option backward.isDefEq.respectTransparency.types false in
def reg0 : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    Hs Rs Hs_rest launch0.toP rfl (fun c => (body_obligation m c).loose)
    (fun _ => 0) owed₀ (fun c => (zero_add _).symm) (fun _ => rfl) (fun _ => rfl) (fun c w => by unfold Dat.share; split <;> rfl)
    (V1 m) (fun c => V2 m (outs m) c)
    (fun c b hb => V2_rest m c b fun h => (Finset.mem_sdiff.mp (Finset.mem_sdiff.mp hb).1).2 (h ▸ res_arr))
    (Tk m) Yk (Xk m) Yk (hopen m) (fun c => .rfl) (leave m)
    (fun c => by iintro H; imodintro; iexact H)
    (fun _ => 0)
    ⟨fun c w s => by rw [L_tc]; exact Finset.mem_singleton_self _, fun c w s => lv_stage c w s, fun c t g i h => owed_high m c t g i h⟩
    (fun _ => iprop(emp))
    (arr_before m) (arr_after m)

/-- What rests beside the unscoped buffers before the call, and after it. -/
def E : Fin 2 → Dev nD → sProp 𝕄
  | 0, c => iprop((∃ r, prngReg c r) ∗ Tk m c ∗ ∃ W, owes (c : Thread nD τ) (owed₀ c) W)
  | 1, c => iprop(semVal (barCell c) 0 ∗ ∃ W, owes (c : Thread nD τ) 0 W)

set_option backward.isDefEq.respectTransparency.types false in
theorem enter (c : Dev nD) : iprop(StableHlo.held (c : Thread nD τ) (Pipeline.ucRefs τ sig) (V1 m c) ∗ E m 0 c) ⊢ (reg0 m).pre c := by
  show _ ⊢ iprop(StableHlo.held (c : Thread nD τ) (Pipeline.arrRefs (τ := τ) spec0) (V1 m c) ∗ (∃ r, prngReg c r)
    ∗ (StableHlo.held (c : Thread nD τ) Rs (V1 m c) ∗ emp) ∗ Tk m c ∗ ∃ Wd, owes (c : Thread nD τ) (0 + owed₀ c) Wd)
  rw [zero_add, StableHlo.held_sub_split (c : Thread nD τ) arr_uc (V1 m c)]
  unfold E
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

set_option backward.isDefEq.respectTransparency.types false in
theorem exit (c : Dev nD) : (reg0 m).post c ⊢ iprop(StableHlo.held (c : Thread nD τ) (Pipeline.ucRefs τ sig) (V2 m (outs m) c) ∗ E m 1 c) := by
  show iprop(StableHlo.held (c : Thread nD τ) (Pipeline.arrRefs (τ := τ) spec0) (V2 m (outs m) c) ∗ (∃ r, prngReg c r)
    ∗ (StableHlo.held (c : Thread nD τ) Rs (V2 m (outs m) c) ∗ emp) ∗ Yk c ∗ ∃ Wd, owes (c : Thread nD τ) 0 Wd) ⊢ _
  rw [StableHlo.held_sub_split (c : Thread nD τ) arr_uc (V2 m (outs m) c)]
  unfold E Yk
  iintro ⟨Ha, -, ⟨Hr, -⟩, Hb, HO⟩
  isplitl [Ha Hr]
  · isplitl [Ha] <;> iassumption
  isplitl [Hb]; · iexact Hb
  iexact HO

end Cert.KernelIdeal.Ring

end
-- ==== Proof.KernelIdeal.Launch.lean ====
/-
# The launch and the run

Every counter's invariant is made at launch, the call's own ones unopened; tokens and credits are dealt; then the program runs.
-/
module

public import proofs.«01_k».proof.Proof.KernelIdeal.Segment

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

open Idealize.ShloMosaic.Pipeline (Dat)

/-- A family of pairs is a pair of families. -/
theorem bigSep_unpair {α : Type} [Fintype α] (A B : α → sProp (MT nD τ sig Unit (Elt F) ℕ UU ℕ)) :
    bigSep Finset.univ (fun x => iprop(A x ∗ B x)) ⊢ iprop(bigSep Finset.univ A ∗ bigSep Finset.univ B) := Entails.of_eq (bigSep_sep' _ _ _)
theorem bigSep_repair {α : Type} [Fintype α] (A B : α → sProp (MT nD τ sig Unit (Elt F) ℕ UU ℕ)) :
    iprop(bigSep Finset.univ A ∗ bigSep Finset.univ B) ⊢ bigSep Finset.univ (fun x => iprop(A x ∗ B x)) := Entails.of_eq (bigSep_sep' _ _ _).symm

/-! ## Tokens -/

/-- Two tokens for every counter, more than are ever spent. -/
abbrev barTok : Dev nD × Fin 2 ↪ GSem nD τ sig × ℕ × Fin 2 :=
  ⟨fun p => (barEmb p.1, 0, p.2), fun a b h => Prod.ext (barEmb.injective (congrArg Prod.fst h)) (congrArg (fun x => x.2.2) h)⟩
abbrev ownTok : (Dev nD × Fin 25) × Fin 2 ↪ GSem nD τ sig × ℕ × Fin 2 :=
  ⟨fun p => (ownEmb p.1, 0, p.2), fun a b h => Prod.ext (ownEmb.injective (congrArg Prod.fst h)) (congrArg (fun x => x.2.2) h)⟩
abbrev toks : Finset (GSem nD τ sig × ℕ × Fin 2) := Finset.univ.map barTok ∪ Finset.univ.map ownTok

theorem bar_ne_own (c : Dev nD) (p : Dev nD × Fin 25) : ownEmb p ≠ barEmb c := fun h => by
  have h' : osem p.2 = SemLoc.reg barS := congrArg Prod.snd h
  cases h'

theorem cells_apart : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact bar_ne_own c p h

theorem toks_apart : Disjoint (Finset.univ.map barTok) (Finset.univ.map ownTok) := by
  rw [Finset.disjoint_left]
  rintro g h₁ h₂
  obtain ⟨c, -, rfl⟩ := Finset.mem_map.mp h₁
  obtain ⟨p, -, h⟩ := Finset.mem_map.mp h₂
  exact bar_ne_own c.1 p.1 (congrArg Prod.fst h)

/-- Both tokens of a counter. -/
def both (g : GSem nD τ sig) : sProp 𝕄 := iprop(dutyTok ER g 0 0 ∗ dutyTok ER g 0 1)

theorem toks_eq : bigSep toks (fun x => (dutyTok ER x.1 x.2.1 x.2.2 : sProp 𝕄))
    = iprop(bigSep Finset.univ (fun c : Dev nD => both (barCell c))
      ∗ bigSep Finset.univ (fun c : Dev nD => bigSep Finset.univ fun k : Fin 25 => both ((c : Thread nD τ), osem k))) := by
  have h (g : GSem nD τ sig) : bigSep Finset.univ (fun e : Fin 2 => (dutyTok ER g 0 e : sProp 𝕄)) = both g := by
    rw [BI.bigSep_fin_two]; rfl
  refine (BI.bigSep_union toks_apart).trans ?_
  rw [bigSep_map, bigSep_map, bigSep_univ_prod, bigSep_univ_prod, bigSep_univ_prod]
  simp only [← h]
  rfl

/-- A device's own tokens, as the launch makes them. -/
def minted (c : Dev nD) : sProp 𝕄 :=
  iprop((dutyTok ER (barCell c) 0 0 ∗ dutyTok ER (barCell c) 0 1) ∗ (dutyTok ER (kvCell c) 0 0 ∗ dutyTok ER (kvCell c) 0 1)
    ∗ bigSep Finset.univ (fun j : J => dutyTok ER (sndCell j.2.2 j.2.1 j.1 c) 0 0) ∗ bigSep Finset.univ (fun j : J => dutyTok ER (rcvCell j.2.2 j.2.1 j.1 c) 0 0))
/-- The tokens a device spends. -/
def dealt (c : Dev nD) : sProp 𝕄 :=
  iprop((dutyTok ER (barCell (nbr 1 c)) 0 0 ∗ dutyTok ER (barCell (nbr 0 c)) 0 1) ∗ (dutyTok ER (kvCell c) 0 0 ∗ dutyTok ER (kvCell c) 0 1)
    ∗ bigSep Finset.univ (fun j : J => dutyTok ER (sndCell j.2.2 j.2.1 j.1 c) 0 0) ∗ bigSep Finset.univ (fun j : J => dutyTok ER (rcvCell j.2.2 j.2.1 j.1 (nbr j.2.1 c)) 0 0))

theorem mint (c : Dev nD) : iprop(both (barCell c) ∗ bigSep Finset.univ fun k : Fin 25 => both ((c : Thread nD τ), osem k)) ⊢ (minted c : sProp 𝕄) := by
  rw [bigSep_own (F := F) (fun sm => both ((c : Thread nD τ), sm)), bigSep_sep']
  have h1 (g : J → GSem nD τ sig) : bigSep Finset.univ (fun j : J => both (g j)) ⊢ bigSep Finset.univ (fun j : J => (dutyTok ER (g j) 0 0 : sProp 𝕄)) :=
    bigSep_mono fun j _ => by
      show (_ : sProp 𝕄) ⊢ _
      unfold both; iintro ⟨H, -⟩; iexact H
  unfold minted
  iintro ⟨Hb, Hk, Hs, Hr⟩
  isplitl [Hb]; · unfold both; iexact Hb
  isplitl [Hk]; · unfold both; iexact Hk
  isplitl [Hs]
  · iapply (h1 fun j => sndCell j.2.2 j.2.1 j.1 c) $$ Hs
  iapply (h1 fun j => rcvCell j.2.2 j.2.1 j.1 c) $$ Hr

def round : Dev nD × J ≃ Dev nD × J := ⟨fun p => (nbr p.2.2.1 p.1, p.2), fun p => (nbr (opp p.2.2.1) p.1, p.2),
  fun p => Prod.ext (opp_nbr _ _) rfl, fun p => Prod.ext (nbr_opp _ _) rfl⟩

/-- The door's tokens go to the two neighbours, the arrivals' to the senders. -/
theorem pass : bigSep Finset.univ (fun c : Dev nD => (minted c : sProp 𝕄)) ⊢ bigSep Finset.univ (fun c : Dev nD => dealt c) := by
  have hr : bigSep Finset.univ (fun c : Dev nD => bigSep Finset.univ (fun j : J => (dutyTok ER (rcvCell j.2.2 j.2.1 j.1 c) 0 0 : sProp 𝕄)))
      = bigSep Finset.univ (fun c : Dev nD => bigSep Finset.univ (fun j : J => (dutyTok ER (rcvCell j.2.2 j.2.1 j.1 (nbr j.2.1 c)) 0 0 : sProp 𝕄))) := by
    rw [← bigSep_univ_prod (fun p : Dev nD × J => (dutyTok ER (rcvCell p.2.2.2 p.2.2.1 p.2.1 p.1) 0 0 : sProp 𝕄)), bigSep_univ_equiv round, bigSep_univ_prod]
    rfl
  unfold minted dealt
  rw [bigSep_sep', bigSep_sep', bigSep_sep', bigSep_sep', bigSep_sep', bigSep_sep', bigSep_sep', bigSep_sep', bigSep_sep', bigSep_sep', hr,
    bigSep_univ_equiv (turn 1) (fun c : Dev nD => (dutyTok ER (barCell c) 0 0 : sProp 𝕄)),
    bigSep_univ_equiv (turn 0) (fun c : Dev nD => (dutyTok ER (barCell c) 0 1 : sProp 𝕄))]
  exact BI.Entails.refl _

/-! ## Credits -/

theorem bar_ne_rcv (t d : Fin 2) (h : Fin 3) (b c : Dev nD) : barCell b ≠ rcvCell t d h c := fun e => by
  have e' : SemLoc.reg barS = SemLoc.dma (rcvS t d h) := congrArg Prod.snd e
  cases e'
theorem dueX_bar (e c : Dev nD) (i : Fin 12) : dueX e i (barCell c) () = 0 := by
  unfold dueX; rw [tallyAt_apply, if_neg fun h => bar_ne_rcv _ _ _ _ _ h.1]
theorem bar_inj {a b : Dev nD} (h : barCell a = barCell b) : a = b := barEmb.injective h

theorem owed_bar (e c : Dev nD) : owed₀ e (barCell c) () = (if e = nbr 1 c then 1 else 0) + (if e = nbr 0 c then 1 else 0) := by
  have h0 : owed e 0 (barCell c) () = 0 := by
    unfold owed; rw [Finset.sum_apply, Finsupp.finsetSum_apply]
    exact Finset.sum_eq_zero fun i _ => dueX_bar e c i
  have hd (d : Fin 2) : (tallyAt (barCell (nbr d e)) () 1 : CellTallies nD τ sig Unit) (barCell c) () = if e = nbr (opp d) c then 1 else 0 := by
    rw [tallyAt_apply]
    by_cases h : e = nbr (opp d) c
    · subst h; rw [nbr_opp, if_pos ⟨rfl, rfl⟩, if_pos rfl]
    · rw [if_neg (fun h' => h (by rw [bar_inj h'.1, opp_nbr])), if_neg h]
  unfold owed₀ owed₁
  rw [Pi.add_apply, Finsupp.add_apply, Pi.add_apply, Finsupp.add_apply, h0, Nat.zero_add, hd, hd]
  rfl

theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun e _ => owed_bar e c, Finset.sum_add_distrib,
    Finset.sum_ite_eq' Finset.univ (nbr 1 c) fun _ => 1, Finset.sum_ite_eq' Finset.univ (nbr 0 c) fun _ => 1, if_pos (Finset.mem_univ _), if_pos (Finset.mem_univ _)]

set_option backward.proofsInPublic true in
/-- The place of a transfer in the order of starting. -/
def turnOf (t d : Fin 2) (h : Fin 3) : Fin 12 := ⟨4 * h.val + 2 * d.val + t.val, by omega⟩
theorem turnOf_spec : ∀ (t d : Fin 2) (h : Fin 3), tOf (turnOf t d h) = t ∧ dOf (turnOf t d h) = d ∧ hOf (turnOf t d h) = h := by decide
theorem turnOf_only : ∀ i : Fin 12, i = turnOf (tOf i) (dOf i) (hOf i) := by decide

theorem rcv_inj {t d : Fin 2} {h : Fin 3} {c : Dev nD} {t' d' : Fin 2} {h' : Fin 3} {c' : Dev nD} (e : rcvCell t d h c = rcvCell t' d' h' c') :
    t = t' ∧ d = d' ∧ h = h' ∧ c = c' := by
  have e1 : rcvS t d h = rcvS t' d' h' := SemLoc.dma.inj (congrArg Prod.snd e)
  have e2 := congrArg role e1
  rw [role_rcv, role_rcv] at e2
  have e3 : c = c' := by simpa using congrArg (fun g : GSem nD τ sig => g.1.1) e
  simp only [Prod.mk.injEq, true_and] at e2
  exact ⟨e2.1, e2.2.1, e2.2.2, e3⟩

theorem owed_rcv (t d : Fin 2) (h : Fin 3) (e c : Dev nD) : owed₀ e (rcvCell t d h c) () = if e = nbr (opp d) c then amt t else 0 := by
  have hb (b : Dev nD) : (tallyAt (barCell b) () 1 : CellTallies nD τ sig Unit) (rcvCell t d h c) () = 0 := by
    rw [tallyAt_apply, if_neg fun h' => bar_ne_rcv _ _ _ _ _ h'.1.symm]
  unfold owed₀ owed₁
  rw [Pi.add_apply, Finsupp.add_apply, Pi.add_apply, Finsupp.add_apply, hb, hb]
  simp only [Nat.add_zero]
  unfold owed; rw [Finset.sum_apply, Finsupp.finsetSum_apply, Finset.sum_eq_single (turnOf t d h)]
  · obtain ⟨ht, hd, hh⟩ := turnOf_spec t d h
    unfold dueX; rw [ht, hd, hh, tallyAt_apply]
    by_cases h' : e = nbr (opp d) c
    · subst h'; rw [nbr_opp, if_pos ⟨rfl, rfl⟩, if_pos rfl]
    · rw [if_neg (fun e' => h' (by rw [(rcv_inj e'.1).2.2.2, opp_nbr])), if_neg h']
  · intro i _ hi
    unfold dueX; rw [tallyAt_apply, if_neg]
    rintro ⟨e', -⟩
    obtain ⟨ht, hd, hh, -⟩ := rcv_inj e'
    exact hi (by rw [turnOf_only i, ← ht, ← hd, ← hh])
  · intro hn; exact (hn (by simp)).elim

theorem launch_rcv (t d : Fin 2) (h : Fin 3) (c : Dev nD) :
    tallyOn (rcvCell t d h c) (launchCredit (Pipeline.owing owed₀) 0 (rcvCell t d h c)) = (tallyAt (rcvCell t d h c) () (amt t) : CellTallies nD τ sig Unit) := by
  unfold tallyAt; refine congrArg _ (Finsupp.ext fun u => ?_); cases u
  rw [Pipeline.launchCredit_owing, Finsupp.single_eq_same, Finset.sum_congr rfl fun e _ => owed_rcv t d h e c, Finset.sum_ite_eq' Finset.univ (nbr (opp d) c) fun _ => amt t,
    if_pos (Finset.mem_univ _)]

def rcvEmb : J ↪ SemLoc sig := ⟨fun j => .dma (rcvS j.2.2 j.2.1 j.1), fun a b h => by
  obtain ⟨h1, h2, h3, -⟩ := rcv_inj (c := (0 : Dev nD)) (c' := (0 : Dev nD)) (congrArg (fun sm => (((0 : Dev nD) : Thread nD τ), sm)) h)
  exact Prod.ext h3 (Prod.ext h2 h1)⟩

theorem creds (c : Dev nD) : (Pipeline.launchCred owed₀ c : sProp 𝕄)
    ⊢ iprop(cred (tallyAt (barCell c) () 2) ∗ bigSep Finset.univ (fun j : J => cred (tallyAt (rcvCell j.2.2 j.2.1 j.1 c) () (amt j.2.2)))) := by
  unfold Pipeline.launchCred
  rw [bigSep_univ_at _ (SemLoc.reg barS), launch_bar]
  refine sep_mono_right ?_
  rw [bigSep_congr (s := Finset.univ) (Φ := fun j : J => (cred (tallyAt (rcvCell j.2.2 j.2.1 j.1 c) () (amt j.2.2)) : sProp 𝕄))
    (Ψ := fun j : J => cred (tallyOn ((c : Thread nD τ), rcvEmb j) (launchCredit (Pipeline.owing owed₀) 0 ((c : Thread nD τ), rcvEmb j))))
    fun j _ => congrArg cred (launch_rcv j.2.2 j.2.1 j.1 c).symm]
  rw [← bigSep_map rcvEmb (s := Finset.univ) (Φ := fun sm => (cred (tallyOn ((c : Thread nD τ), sm) (launchCredit (Pipeline.owing owed₀) 0 ((c : Thread nD τ), sm))) : sProp 𝕄))]
  refine BI.bigSep_subset fun sm hsm => ?_
  obtain ⟨j, -, rfl⟩ := Finset.mem_map.mp hsm
  exact Finset.mem_erase.mpr ⟨fun h => (by cases h), Finset.mem_univ _⟩

/-! ## What the launch makes -/

def u₀ : UU :=
  (initOf (Pipeline.cells cfgs cellOf_inj) (Pipeline.launchToks cfgs cellOf_inj), launchOf barCells ownCells toks)

/-- A resource that only one device is given. -/
def onDev (a : Dev nD) (X : sProp (MT nD τ sig Unit (Elt F) ℕ UU ℕ)) (c : Dev nD) : sProp 𝕄 := if c = a then X else iprop(emp)
theorem bigSep_onDev (a : Dev nD) (X : sProp (MT nD τ sig Unit (Elt F) ℕ UU ℕ)) : bigSep Finset.univ (onDev a X) = X := by
  rw [bigSep_univ_at _ a, bigSep_congr (s := Finset.univ.erase a) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev 0 (BI.own (ER (launchOf barCells ownCells toks)))

/-- The invariants and the barrier's first round, which any device may consult. -/
def known (κ : GSem nD τ sig → ℕ) : sProp 𝕄 := iprop(recs (data m) κ ∗ bigSep barCells fun g => reached ER g 0)
instance known_persistent (κ : GSem nD τ sig → ℕ) : BI.Persistent (known m κ) := by unfold known; infer_instance

theorem reached_bar (c : Dev nD) : (bigSep barCells fun g => (reached ER g 0 : sProp 𝕄)) ⊢ reached ER (barCell c) 0 :=
  bigSep_elim (Finset.mem_map_of_mem barEmb (Finset.mem_univ c))

/-- A device's share of the launch's ghost state. -/
def share (c : Dev nD) : sProp 𝕄 :=
  iprop(atPos ER (barCell c) 0 ∅ 0 ∗ bigSep Finset.univ (fun k : Fin 25 => openTok ER ((c : Thread nD τ), osem k)) ∗ dealt c)

/-- The rest of what it starts with. -/
def bundle (c : Dev nD) : sProp 𝕄 :=
  iprop(StableHlo.held (c : Thread nD τ) (Pipeline.ucRefs τ sig) (V0 m c)
    ∗ (cred (tallyAt (barCell c) () 2) ∗ bigSep Finset.univ (fun j : J => cred (tallyAt (rcvCell j.2.2 j.2.1 j.1 c) () (amt j.2.2))))
    ∗ owes (c : Thread nD τ) (owed₀ c) ∅ ∗ ∃ r, prngReg c r)

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V2 m (outs m) c) ∗ semVal (barCell c) 0)

theorem T₀_intro (κ : GSem nD τ sig → ℕ) (c : Dev nD) : iprop(known m κ ∗ (share c ∗ bundle m c)) ⊢ T₀ m c := by
  have hj : iprop(bigSep Finset.univ (fun j : J => (dutyTok ER (sndCell j.2.2 j.2.1 j.1 c) 0 0 : sProp 𝕄))
      ∗ bigSep Finset.univ (fun j : J => dutyTok ER (rcvCell j.2.2 j.2.1 j.1 (nbr j.2.1 c)) 0 0)
      ∗ bigSep Finset.univ (fun j : J => cred (tallyAt (rcvCell j.2.2 j.2.1 j.1 c) () (amt j.2.2))))
      ⊢ bigSep Finset.univ (fun j : J => (ticket j.2.2 j.2.1 j.1 c : sProp 𝕄)) := by
    rw [← bigSep_sep', ← bigSep_sep']
    refine bigSep_mono fun j _ => ?_
    show (_ : sProp 𝕄) ⊢ _
    unfold ticket
    iintro ⟨A, B, C⟩
    iframe A B C
  unfold known share bundle T₀ E Tk deal door dealt
  iintro ⟨⟨#HI, #HR⟩, ⟨Ha, Ho, ⟨B0, B1⟩, Hkv, Hs, Hr⟩, Hh, ⟨Cb, Cj⟩, HO, Hp⟩
  isplitl [Hh]; · iexact Hh
  isplitl [Hp]; · iexact Hp
  isplitr [HO]
  · iexists κ
    isplitr; · iexact HI
    isplitl [Ho]; · iexact Ho
    isplitl [Ha B0 B1 Cb]
    · isplitl [Cb]; · iexact Cb
      isplitl [Ha]; · iexact Ha
      isplitl [B0]
      · isplitl [B0]; · iexact B0
        iapply (reached_bar (F := F) (nbr 1 c)); iexact HR
      · isplitl [B1]; · iexact B1
        iapply (reached_bar (F := F) (nbr 0 c)); iexact HR
    isplitl [Hkv]; · iexact Hkv
    iapply hj
    isplitl [Hs]; · iexact Hs
    isplitl [Hr] <;> iassumption
  · iexists ∅; iexact HO

theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V0 m c) from
        Pipeline.unscopedBufs_held c (V0 m c),
      show (unscopedSems0 c : sProp 𝕄) = semVal (barCell c) 0 from by
        unfold unscopedSems0
        rw [show (Finset.univ.filter fun sm : SemLoc sig => ¬ sm.isScoped .tc = true) = {SemLoc.reg barS} from by decide, bigSep_singleton]]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ fun k : Fin 25 => (openTok ER ((c : Thread nD τ), osem k) : sProp 𝕄)) :=
    Entails.of_eq (by rw [bigSep_map, bigSep_univ_prod]; rfl)
  have htok : bigSep toks (fun x => (dutyTok ER x.1 x.2.1 x.2.2 : sProp 𝕄)) ⊢ bigSep Finset.univ (fun c : Dev nD => dealt c) := by
    rw [toks_eq, ← bigSep_sep']
    exact BIBase.Entails.trans (bigSep_mono fun c _ => mint c) (pass (F := F))
  iintro ⟨H, -⟩
  ihave H' := (show (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (bigSep_unpair _ _) $$ H'; icases H2 with ⟨HB, H3⟩
  ihave H4 := (bigSep_unpair _ _) $$ H3; icases H4 with ⟨Hv, HG⟩
  ihave Hu := (show bigSep Finset.univ (G (F := F)) ⊢ BI.own (ER (launchOf barCells ownCells toks)) from
    Entails.of_eq (bigSep_onDev (F := F) 0 (BI.own (ER (launchOf barCells ownCells toks))))) $$ HG
  imod (Rounds.fund_launch ER (rd (data m)) cells_apart (fun g _ h => h) toks) $$ [Hv Hu] with ⟨%κ, -, #Hinv, #Hr, Hat, Hopen, Htok⟩
  · isplitl [Hv]
    · iapply hv $$ Hv
    · iexact Hu
  imodintro
  iapply (bigSep_with_persistent (R := known m κ) (Φ := fun c => iprop(share c ∗ bundle m c)) fun c _ => T₀_intro m κ c)
  isplitr
  · unfold known recs
    isplitr; · iexact Hinv
    iexact Hr
  iapply (bigSep_repair (F := F))
  isplitr [HB]
  · unfold share
    iapply (bigSep_repair (F := F)); isplitl [Hat]; · iapply hat $$ Hat
    iapply (bigSep_repair (F := F)); isplitl [Hopen]; · iapply hop $$ Hopen
    iapply htok $$ Htok
  · iexact HB

/-! ## The run -/

theorem only_bar : ∀ sm : SemLoc sig, sm.isScoped .tc = false → sm = .reg barS := by decide

set_option backward.isDefEq.respectTransparency.types false in
/-- From any memory with all counters zero the program ends; every argument is then as it was, every device's result is what `res` names,
    and every counter is zero again. -/
theorem run_main : θ_run defs (onTc (τ := τ) (main (F := F))) ⟨m, fun _ => 0, ρ⟩
    (fun r => (∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_v21) = res m c) ∧ r.2.sem = fun _ => 0) :=
  Pipeline.θ_run_regions_kit_dev_sems (pcfgs (F := F)) adm (dats m) () cellOf_inj EP defs₀ 𝒱₀ L lv m ρ main
    (segs m 𝒱₀ L lv (E m) () (dats m) (reg0 m))
    (fun c Q => by
      rewrite [main_chain c, Pipeline.Seg.run_eq_chain,
        show (segs m 𝒱₀ L lv (E m) () (dats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := owed₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := fun c => ⟨.rfl, enter m c, (exit m c).trans (by
      unfold E
      iintro ⟨Hh, Hb, HO⟩
      isplitr [HO]
      · isplitl [Hh] <;> iassumption
      · iexact HO)⟩)
    (hinit := init m ρ)
    (QY := fun c s => (∀ b ∈ Pipeline.ucRefs τ sig, s.mem (c, b) = V2 m (outs m) c b) ∧ s.sem (barCell c) = 0)
    (hfin := fun c s' => by
      dsimp only [Tₙ]
      unfold StableHlo.held
      iintro ⟨⟨Hh, Hb0⟩, HSI⟩
      icombine HSI Hb0 gives %hb
      ihave Hr := (pointsTo_read_all (Pipeline.ucRefs τ sig) (fun b => ((c : Thread nD τ).1, b)) (V2 m (outs m) c) s') $$ [Hh HSI]
      · isplitl [Hh] <;> iassumption
      icases Hr with ⟨%hr, HSI⟩
      imodintro
      isplitr
      · ipureintro
        exact ⟨hr, by simpa using hb⟩
      iexact HSI)
    (hQ := fun s h hs => ⟨fun c => by
        obtain ⟨hr, -⟩ := h c
        exact ⟨(hr main_arg0 (by decide)).trans (V2_main_arg0 m (outs m) c), (hr main_arg1 (by decide)).trans (V2_main_arg1 m (outs m) c),
          (hr main_arg2 (by decide)).trans (V2_main_arg2 m (outs m) c), (hr main_arg3 (by decide)).trans (V2_main_arg3 m (outs m) c),
          (hr main_arg4 (by decide)).trans (V2_main_arg4 m (outs m) c), (hr main_v21 (by decide)).trans (V2_res m c)⟩,
      sem_eq_zero hs fun c sm hsm => by
        obtain rfl := only_bar sm hsm
        exact (h c).2⟩)

end Cert.KernelIdeal.Ring

end
-- ==== Proof.Value.Softmax.lean ====
/-
# Weights and their sums, with and without the row's maximum taken away

Over the extended reals: a row of scores, each a real number or −∞ and at least one a real number, gives the same weighted
mean whether the weights are the exponentials of the scores divided by their sum at the end, or the exponentials of the
scores less their maximum divided by their sum before they are used. The values weighed may be infinite.
-/
module

public import Idealize.ShloMosaic.Lib.Pointwise

@[expose] public section

noncomputable section

namespace Cert.Value

open Idealize.ShloMosaic

/-- A nonnegative real factor is taken out of a sum. -/
theorem sum_mul_real {n : ℕ} (f : Fin n → EReal) {c : ℝ} (hc : 0 ≤ c) : (∑ j, f j * (c : EReal)) = (∑ j, f j) * (c : EReal) := by
  induction n with
  | zero => simp
  | succ n ih =>
    rw [Fin.sum_univ_castSucc, Fin.sum_univ_castSucc, ih]
    exact (EReal.right_distrib_of_nonneg_of_ne_top (EReal.coe_nonneg.mpr hc) (EReal.coe_ne_top c) _ _).symm

/-- A sum of real numbers is taken as a real number. -/
theorem coe_sum {n : ℕ} (f : Fin n → ℝ) : ((∑ j, f j : ℝ) : EReal) = ∑ j, (f j : EReal) := by
  induction n with
  | zero => simp
  | succ n ih => rw [Fin.sum_univ_castSucc, Fin.sum_univ_castSucc, EReal.coe_add, ih]

/-- The largest of a row of scores, one of them not −∞ and none of them +∞, is a real number. -/
theorem max_real {n : ℕ} (s : Fin n → EReal) (ht : ∀ j, s j ≠ ⊤) {k : Fin n} (hk : s k ≠ ⊥) :
    ∃ μ : ℝ, Finset.univ.fold max ⊥ s = (μ : EReal) := by
  have h1 : Finset.univ.fold max ⊥ s ≠ ⊤ := by
    have := (Finset.fold_max_lt (f := s) (s := Finset.univ) (b := (⊥ : EReal)) ⊤).mpr
      ⟨bot_lt_top, fun x _ => lt_top_iff_ne_top.mpr (ht x)⟩
    exact this.ne
  have h2 : Finset.univ.fold max ⊥ s ≠ ⊥ := by
    have := (Finset.lt_fold_max (f := s) (s := Finset.univ) (b := (⊥ : EReal)) ⊥).mpr
      (Or.inr ⟨k, Finset.mem_univ k, bot_lt_iff_ne_bot.mpr hk⟩)
    exact this.ne'
  exact ⟨_, (EReal.coe_toReal h1 h2).symm⟩

/-- A score's exponential, a real number. -/
theorem exp_real {x : EReal} (h : x ≠ ⊤) : ∃ r : ℝ, 0 ≤ r ∧ (x ≠ ⊥ → 0 < r) ∧ Ideal.exp x = (r : EReal) ∧
    ∀ μ : ℝ, Ideal.exp (x - (μ : EReal)) = ((r * Real.exp (-μ) : ℝ) : EReal) := by
  induction x with
  | bot => exact ⟨0, le_rfl, fun h => absurd rfl h, by simp, fun μ => by rw [EReal.bot_sub]; simp⟩
  | top => exact absurd rfl h
  | coe x =>
    refine ⟨Real.exp x, (Real.exp_pos x).le, fun _ => Real.exp_pos x, by simp, fun μ => ?_⟩
    rw [← EReal.coe_sub, Ideal.exp_coe, ← Real.exp_add, sub_eq_add_neg]

/-- The weighted mean of a row, both ways. -/
theorem mean_eq {n : ℕ} (s v : Fin n → EReal) (ht : ∀ j, s j ≠ ⊤) {k : Fin n} (hk : s k ≠ ⊥) :
    (∑ j, v j * Ideal.div (Ideal.exp (s j - Finset.univ.fold max ⊥ s)) (∑ l, Ideal.exp (s l - Finset.univ.fold max ⊥ s)))
      = Ideal.div (∑ j, Ideal.exp (s j) * v j) (∑ j, Ideal.exp (s j)) := by
  obtain ⟨μ, hμ⟩ := max_real s ht hk
  choose r r0 rp re rs using fun j => exp_real (ht j)
  have hR : 0 < ∑ j, r j := Finset.sum_pos' (fun j _ => r0 j) ⟨k, Finset.mem_univ k, rp k hk⟩
  have hc : 0 < Real.exp (-μ) := Real.exp_pos _
  have hw : ∀ j, Ideal.exp (s j - Finset.univ.fold max ⊥ s) = ((r j * Real.exp (-μ) : ℝ) : EReal) := fun j => by rw [hμ]; exact rs j μ
  have hS : (∑ l, Ideal.exp (s l - Finset.univ.fold max ⊥ s)) = (((∑ j, r j) * Real.exp (-μ) : ℝ) : EReal) := by
    rw [Finset.sum_mul, coe_sum]; exact Finset.sum_congr rfl fun j _ => hw j
  have hT : (∑ j, Ideal.exp (s j)) = ((∑ j, r j : ℝ) : EReal) := by rw [coe_sum]; exact Finset.sum_congr rfl fun j _ => re j
  rw [hS, hT, Ideal.div_coe hR.ne', ← sum_mul_real _ (one_div_nonneg.mpr hR.le)]
  refine Finset.sum_congr rfl fun j _ => ?_
  rw [hw j, re j, Ideal.div_coe (mul_pos hR hc).ne', ← EReal.coe_mul, mul_comm (r j : EReal) (v j), mul_assoc (v j), ← EReal.coe_mul]
  congr 2
  field_simp

end Cert.Value
-- ==== Proof.Value.Attention.lean ====
/-
# The attention both programs compute, by its entries

The problem's mathematics over the extended reals, of the whole arrays: a query's weight on a key, one lane of one head's
attention, and the result's entry as one sum over all 2048 lanes of the 32 heads.
-/
module

public import proofs.«01_k».proof.Proof.Value.Softmax

@[expose] public section

noncomputable section

namespace Cert.Value

open Idealize.ShloMosaic

/-- The scale of the scores, one eighth, by its bits. -/
def eighth : EReal := Ideal.ofBits .f32 0x3E000000#32

theorem eighth_eq : eighth = ((1 / 8 : ℝ) : EReal) := by
  unfold eighth
  simp [Ideal.ofBits, Ideal.ieee, -EReal.coe_mul]; norm_num

/-- The score of query row `i` on key row `j`. -/
def dotRow (q k : Fin 512 → Fin 64 → EReal) (i j : Fin 512) : EReal := ∑ d : Fin 64, q i d * k j d

/-- What query row `i` weighs key row `j`: nothing where the key's block of 64 rows is later than the query's. -/
def weight (q k : Fin 512 → Fin 64 → EReal) (i j : Fin 512) : EReal :=
  if j.val / 64 ≤ i.val / 64 then Ideal.exp (dotRow q k i j) else 0

/-- One lane of one head's attention: the values weighed, over the weights' sum. -/
def mean (q k v : Fin 512 → Fin 64 → EReal) (i : Fin 512) (d : Fin 64) : EReal :=
  Ideal.div (∑ j, weight q k i j * v j d) (∑ j, weight q k i j)

/-- A head's scaled queries. -/
def query (x : Fin 512 → Fin 768 → EReal) (w : Fin 768 → Fin 64 → EReal) (i : Fin 512) (d : Fin 64) : EReal :=
  (∑ e, x i e * w e d) * eighth

variable (A0 : (⟨3, ![8, 512, 768]⟩ : Shape).Idx → EReal) (A1 : (⟨2, ![768, 2048]⟩ : Shape).Idx → EReal)
  (A2 A3 : (⟨4, ![8, 512, 32, 64]⟩ : Shape).Idx → EReal) (A4 : (⟨2, ![2048, 768]⟩ : Shape).Idx → EReal)

/-- The rows of batch `B`, the query weights of head `H`, and its keys or values. -/
def rowsOf (B : Fin 8) (i : Fin 512) (e : Fin 768) : EReal := A0 (ix3 B i e)
def colsOf (H : Fin 32) (e : Fin 768) (d : Fin 64) : EReal := A1 (ix2 e ⟨64 * H.val + d.val, by omega⟩)
def headOf (B : Fin 8) (H : Fin 32) (j : Fin 512) (d : Fin 64) : EReal := A2 (ix4 B j H d)

/-- Lane `d` of head `H`, batch `B`, row `i`. -/
def lane (B : Fin 8) (i : Fin 512) (H : Fin 32) (d : Fin 64) : EReal :=
  mean (query (rowsOf A0 B) (colsOf A1 H)) (headOf A2 B H) (headOf A3 B H) i d

/-- Lane `n` of the 2048, times the output weight from it to lane `e` of the result. -/
def term (B : Fin 8) (i : Fin 512) (e : Fin 768) (n : Fin 2048) : EReal :=
  lane A0 A1 A2 A3 B i ⟨n.val / 64, by omega⟩ ⟨n.val % 64, by omega⟩ * A4 (ix2 n e)

/-- An entry of the result. -/
def entry (B : Fin 8) (i : Fin 512) (e : Fin 768) : EReal := ∑ n, term A0 A1 A2 A3 A4 B i e n

/-- The whole result. -/
def full (j : (⟨3, ![8, 512, 768]⟩ : Shape).Idx) : EReal := entry A0 A1 A2 A3 A4 (j 0) (j 1) (j 2)

/-! ## The sum in eighths -/

/-- The part of a sum over 2048 lanes that lies in its eighth `z`. -/
def part (f : Fin 2048 → EReal) (z : Fin 8) : EReal := ∑ l : Fin 256, f ⟨256 * z.val + l.val, by omega⟩

theorem sum_parts (f : Fin 2048 → EReal) : (∑ n, f n) = ∑ z, part f z := by
  unfold part
  rw [← Fintype.sum_prod_type' (f := fun (z : Fin 8) (l : Fin 256) => f ⟨256 * z.val + l.val, by omega⟩)]
  refine (Fintype.sum_equiv (finProdFinEquiv : Fin 8 × Fin 256 ≃ Fin 2048) _ f fun p => ?_).symm
  exact congrArg f (Fin.ext (Nat.add_comm (256 * p.1.val) p.2.val))

/-- Two neighbouring eighths in one sum. -/
theorem part_pair (f : Fin 2048 → EReal) (c : Fin 4) :
    (∑ l : Fin 512, f ⟨512 * c.val + l.val, by omega⟩) = part f ⟨2 * c.val, by omega⟩ + part f ⟨2 * c.val + 1, by omega⟩ := by
  unfold part
  rw [Fin.sum_univ_add (a := 256) (b := 256)]
  refine congrArg₂ (· + ·) (Finset.sum_congr rfl fun l _ => congrArg f (Fin.ext ?_)) (Finset.sum_congr rfl fun l _ => congrArg f (Fin.ext ?_))
  · simp; omega
  · simp; omega

end Cert.Value
-- ==== Proof.Value.Heads.lean ====
/-
# One head of the kernel, by its entries
-/
module

public import proofs.«01_k».proof.Proof.KernelIdeal.Blocks
public import proofs.«01_k».proof.Proof.Value.Attention

@[expose] public section

set_option maxRecDepth 16384

noncomputable section

namespace Cert.KernelIdeal.Ring

open Cert.KernelIdeal Cert.KernelIdeal.Gen Cert.Value
open Idealize.ShloMosaic

/-- A word divided by 64 the way the mask divides it, rounding down. -/
def blockWord (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem blockWord_eq : ∀ a : Fin 256, blockWord (BitVec.ofNat 32 a.val) = BitVec.ofNat 32 (a.val / 64) := by decide +kernel

/-- The comparison of two block numbers. -/
theorem block_le : ∀ p q : Fin 4, IntOp.cmpi .sle (BitVec.ofNat 32 p.val) (BitVec.ofNat 32 q.val) = if p.val ≤ q.val then 1#1 else 0#1 := by decide +kernel

theorem bias_apply (a b : Fin 256) : bias (F := Ideal) (ix2 a b) = if b.val / 64 ≤ a.val / 64 then 0 else ⊥ := by
  unfold bias
  pointwise [k0_pay1, k0_pay2, k0_pay3]
  change Scalar.select (IntOp.cmpi .sle (blockWord (BitVec.ofNat 32 b.val)) (blockWord (BitVec.ofNat 32 a.val))) (0 : EReal) ⊥ = _
  rw [blockWord_eq, blockWord_eq, block_le ⟨b.val / 64, by omega⟩ ⟨a.val / 64, by omega⟩]
  by_cases h : b.val / 64 ≤ a.val / 64
  · simp only [if_pos h]; rfl
  · simp only [if_neg h]; rfl

/-- A masked score's exponential. -/
theorem exp_masked (x : EReal) (p : Prop) [Decidable p] : Ideal.exp (x + if p then 0 else ⊥) = if p then Ideal.exp x else 0 := by
  by_cases h : p
  · rw [if_pos h, if_pos h, add_zero]
  · rw [if_neg h, if_neg h, EReal.add_bot, Ideal.exp_bot]

theorem weigh_apply (s : FVec Ideal S256x256 .f32) (v : FVec Ideal S256x65 .bf16) (a : Fin 256) (d : Fin 65) :
    weigh s v (ix2 a d) = ∑ j : Fin 256, Ideal.exp (s (ix2 a j)) * v (ix2 j d) := by
  pointwise [weigh]

theorem rowsLo_apply (x : FVec Ideal S512x64 .bf16) (a : Fin 256) (d : Fin 64) : rowsLo x (ix2 a d) = x (ix2 ⟨a.val, by omega⟩ d) := by
  pointwise [rowsLo]

theorem rowsHi_apply (x : FVec Ideal S512x64 .bf16) (a : Fin 256) (d : Fin 64) : rowsHi x (ix2 a d) = x (ix2 ⟨256 + a.val, by omega⟩ d) := by
  pointwise [rowsHi]

theorem vOne_apply (v : FVec Ideal S256x64 .bf16) (a : Fin 256) (d : Fin 65) :
    vOne v (ix2 a d) = if h : d.val < 64 then v (ix2 a ⟨d.val, h⟩) else 1 := by
  unfold vOne ones
  pointwise

theorem score_apply (q k : FVec Ideal S256x64 .bf16) (a b : Fin 256) :
    score q k (ix2 a b) = ∑ e : Fin 64, q (ix2 a e) * k (ix2 b e) := by
  pointwise [score]

/-- A head's queries, keys or values by row and lane. -/
def rows (q : FVec Ideal S512x64 .bf16) (i : Fin 512) (d : Fin 64) : EReal := q (ix2 i d)

/-- A head's values with the lane of ones appended. -/
def withOne (v : FVec Ideal S512x64 .bf16) (j : Fin 512) (d : Fin 65) : EReal := if h : d.val < 64 then v (ix2 j ⟨d.val, h⟩) else 1

theorem weight_seen (q k : Fin 512 → Fin 64 → EReal) {i j : Fin 512} (h : j.val / 64 ≤ i.val / 64) :
    weight q k i j = Ideal.exp (dotRow q k i j) := if_pos h
theorem weight_unseen (q k : Fin 512 → Fin 64 → EReal) {i j : Fin 512} (h : ¬ j.val / 64 ≤ i.val / 64) :
    weight q k i j = 0 := if_neg h

theorem sums_apply (q k v : FVec Ideal S512x64 .bf16) (i : Fin 512) (d : Fin 65) :
    sums q k v (ix2 i d) = ∑ j, weight (rows q) (rows k) i j * withOne v j d := by
  unfold sums
  rw [Fin.sum_univ_two_halves 256 256 rfl]
  pointwise [weigh_apply, score_apply, bias_apply, rowsLo_apply, rowsHi_apply, vOne_apply, exp_masked]
  by_cases h : i.val < 256
  · rw [dif_pos h]
    refine (add_zero _).symm.trans (congrArg₂ (· + ·) rfl (Finset.sum_eq_zero fun x _ => ?_).symm)
    rw [weight_unseen _ _ (show ¬ (256 + x.val) / 64 ≤ i.val / 64 by omega), zero_mul]
  · rw [dif_neg h]
    have hi : (⟨256 + (i.val - 256), by omega⟩ : Fin 512) = i := Fin.ext (show 256 + (i.val - 256) = i.val by omega)
    refine congrArg₂ (· + ·) (Finset.sum_congr rfl fun x _ => ?_) (Finset.sum_congr rfl fun x _ => ?_)
    · rw [weight_seen _ _ (show x.val / 64 ≤ i.val / 64 by omega), hi]; rfl
    · rw [hi]
      refine congrArg₂ (· * ·) (if_congr (show _ ↔ (256 + x.val) / 64 ≤ i.val / 64 by omega) rfl rfl) rfl

theorem head_apply (q k v : FVec Ideal S512x64 .bf16) (i : Fin 512) (d : Fin 64) :
    head q k v (ix2 i d) = mean (rows q) (rows k) (rows v) i d := by
  pointwise [head, sums_apply, mean]
  refine congrArg₂ Ideal.div (Finset.sum_congr rfl fun j _ => ?_) (Finset.sum_congr rfl fun j _ => ?_)
  · exact congrArg (weight (rows q) (rows k) i j * ·) (dif_pos d.isLt)
  · exact mul_one _

end Cert.KernelIdeal.Ring
-- ==== Proof.Value.Contributions.lean ====
/-
# The contribution of eight heads, and of four, by its entries
-/
module

public import proofs.«01_k».proof.Proof.Value.Heads

@[expose] public section

set_option maxRecDepth 16384

noncomputable section

namespace Cert.KernelIdeal.Ring

open Cert.KernelIdeal Cert.KernelIdeal.Gen Cert.Value
open Idealize.ShloMosaic

/-- Four heads' outputs side by side: lane `l` is lane `l % 64` of head `l / 64`. -/
theorem cat4_apply (p0 p1 p2 p3 : FVec Ideal S512x64 .bf16) (G : Fin 4 → Fin 512 → Fin 64 → EReal)
    (h0 : ∀ i d, p0 (ix2 i d) = G 0 i d) (h1 : ∀ i d, p1 (ix2 i d) = G 1 i d)
    (h2 : ∀ i d, p2 (ix2 i d) = G 2 i d) (h3 : ∀ i d, p3 (ix2 i d) = G 3 i d) (i : Fin 512) (l : Fin 256) :
    concatenate S512x256 1 [⟨S512x64, p0⟩, ⟨S512x64, p1⟩, ⟨S512x64, p2⟩, ⟨S512x64, p3⟩]
      concatenates_S512x64_S512x64_S512x64_S512x64_S512x256_d1 (ix2 i l) = G ⟨l.val / 64, by omega⟩ i ⟨l.val % 64, by omega⟩ := by
  pointwise [h0, h1, h2, h3]
  split_ifs <;> exact congrArg₂ (fun n d => G n i d) (Fin.ext (by simp; omega)) (Fin.ext (by simp; omega))

/-- Eight heads' outputs side by side. -/
theorem cat8_apply (p0 p1 p2 p3 p4 p5 p6 p7 : FVec Ideal S512x64 .bf16) (G : Fin 8 → Fin 512 → Fin 64 → EReal)
    (h0 : ∀ i d, p0 (ix2 i d) = G 0 i d) (h1 : ∀ i d, p1 (ix2 i d) = G 1 i d)
    (h2 : ∀ i d, p2 (ix2 i d) = G 2 i d) (h3 : ∀ i d, p3 (ix2 i d) = G 3 i d)
    (h4 : ∀ i d, p4 (ix2 i d) = G 4 i d) (h5 : ∀ i d, p5 (ix2 i d) = G 5 i d)
    (h6 : ∀ i d, p6 (ix2 i d) = G 6 i d) (h7 : ∀ i d, p7 (ix2 i d) = G 7 i d) (i : Fin 512) (l : Fin 512) :
    concatenate S512x512 1 [⟨S512x64, p0⟩, ⟨S512x64, p1⟩, ⟨S512x64, p2⟩, ⟨S512x64, p3⟩, ⟨S512x64, p4⟩, ⟨S512x64, p5⟩, ⟨S512x64, p6⟩, ⟨S512x64, p7⟩]
      concatenates_S512x64_S512x64_S512x64_S512x64_S512x64_S512x64_S512x64_S512x64_S512x512_d1 (ix2 i l)
      = G ⟨l.val / 64, by omega⟩ i ⟨l.val % 64, by omega⟩ := by
  pointwise [h0, h1, h2, h3, h4, h5, h6, h7]
  split_ifs <;> exact congrArg₂ (fun n d => G n i d) (Fin.ext (by simp; omega)) (Fin.ext (by simp; omega))

/-- The head of number `n` among heads that lie in pairs. -/
def pick {α : Type} (k : α → Vec Ideal S1x1x512x128 .bf16) (r : α) (t : Fin 2) (j : Fin 512) (d : Fin 64) : EReal :=
  k r (ix4 0 0 j ⟨64 * t.val + d.val, by omega⟩)

/-- Columns `64 n` to `64 n + 63` of query weights. -/
def cols8 (w : Vec Ideal S768x512 .bf16) (n : Fin 8) (e : Fin 768) (d : Fin 64) : EReal := w (ix2 e ⟨64 * n.val + d.val, by omega⟩)
def cols4 (w : Vec Ideal S1x1x768x256 .bf16) (n : Fin 4) (e : Fin 768) (d : Fin 64) : EReal := w (ix4 0 0 e ⟨64 * n.val + d.val, by omega⟩)
/-- A batch by row and lane. -/
def wide (x : FVec Ideal S512x768 .bf16) (i : Fin 512) (e : Fin 768) : EReal := x (ix2 i e)

theorem rows_lo {α : Type} (k : α → Vec Ideal S1x1x512x128 .bf16) (r : α) : rows (lo (k r)) = pick k r 0 := by
  funext j d
  pointwise [rows, lo, pairOf, pick]

theorem rows_hi {α : Type} (k : α → Vec Ideal S1x1x512x128 .bf16) (r : α) : rows (hi (k r)) = pick k r 1 := by
  funext j d
  pointwise [rows, hi, pairOf, pick]

theorem rows_q8 (x : FVec Ideal S512x768 .bf16) (w : Vec Ideal S768x512 .bf16) (i : Fin 512) (l : Fin 512) :
    qs8 x w (ix2 i l) = (∑ e, x (ix2 i e) * w (ix2 e l)) * eighth := by
  pointwise [qs8, eighth]

theorem rows_q4 (x : FVec Ideal S512x768 .bf16) (w : Vec Ideal S1x1x768x256 .bf16) (i : Fin 512) (l : Fin 256) :
    qs4 x (shapeCast S768x256 w shapeCasts_S1x1x768x256_S768x256) (ix2 i l) = (∑ e, x (ix2 i e) * w (ix4 0 0 e l)) * eighth := by
  pointwise [qs4, eighth]

/-- One head of four: the queries of columns `64 n …`, the keys and values of its place in its pair. -/
theorem head_q4 (x : FVec Ideal S512x768 .bf16) (w : Vec Ideal S1x1x768x256 .bf16) (n : Fin 4) (q kk vv : FVec Ideal S512x64 .bf16)
    (K V : Fin 512 → Fin 64 → EReal) (hq : ∀ i d, q (ix2 i d) = qs4 x (shapeCast S768x256 w shapeCasts_S1x1x768x256_S768x256) (ix2 i ⟨64 * n.val + d.val, by omega⟩))
    (hk : rows kk = K) (hv : rows vv = V) (i : Fin 512) (d : Fin 64) :
    head q kk vv (ix2 i d) = mean (query (wide x) (cols4 w n)) K V i d := by
  rw [head_apply, hk, hv]
  refine congrArg (fun t => mean t K V i d) (funext fun a => funext fun b => ?_)
  exact (hq a b).trans (rows_q4 x w a _)

theorem head_q8 (x : FVec Ideal S512x768 .bf16) (w : Vec Ideal S768x512 .bf16) (n : Fin 8) (q kk vv : FVec Ideal S512x64 .bf16)
    (K V : Fin 512 → Fin 64 → EReal) (hq : ∀ i d, q (ix2 i d) = qs8 x w (ix2 i ⟨64 * n.val + d.val, by omega⟩))
    (hk : rows kk = K) (hv : rows vv = V) (i : Fin 512) (d : Fin 64) :
    head q kk vv (ix2 i d) = mean (query (wide x) (cols8 w n)) K V i d := by
  rw [head_apply, hk, hv]
  refine congrArg (fun t => mean t K V i d) (funext fun a => funext fun b => ?_)
  exact (hq a b).trans (rows_q8 x w a _)

theorem slice4 (q : FVec Ideal S512x256 .bf16) (n : Fin 4) (h : S512x256.Slices ![0, 64 * n.val] S512x64) (i : Fin 512) (d : Fin 64) :
    extractStridedSlice S512x64 ![0, 64 * n.val] q h (ix2 i d) = q (ix2 i ⟨64 * n.val + d.val, by omega⟩) := by
  pointwise

theorem slice8 (q : FVec Ideal S512x512 .bf16) (n : Fin 8) (h : S512x512.Slices ![0, 64 * n.val] S512x64) (i : Fin 512) (d : Fin 64) :
    extractStridedSlice S512x64 ![0, 64 * n.val] q h (ix2 i d) = q (ix2 i ⟨64 * n.val + d.val, by omega⟩) := by
  pointwise

theorem dot4_apply (a : FVec Ideal S512x256 .bf16) (o : Vec Ideal S1x1x256x768 .bf16) (i : Fin 512) (e : Fin 768) :
    matmul dot_S512x256_S256x768_S512x768_1_0_0_1_n_n none a (shapeCast S256x768 o shapeCasts_S1x1x256x768_S256x768 : FVec Ideal S256x768 .bf16)
      (constant S512x768 .f32 0x00000000#32) (ix2 i e) = ∑ l, a (ix2 i l) * o (ix4 0 0 l e) := by
  pointwise

theorem dot8_apply (a : FVec Ideal S512x512 .bf16) (o : Vec Ideal S512x768 .bf16) (i : Fin 512) (e : Fin 768) :
    matmul (φ₂ := .bf16) dot_S512x512_S512x768_S512x768_1_0_0_1_n_n none a o
      (constant S512x768 .f32 0x00000000#32) (ix2 i e) = ∑ l, a (ix2 i l) * o (ix2 l e) := by
  pointwise

theorem block4_apply (x : FVec Ideal S512x768 .bf16) (w : Vec Ideal S1x1x768x256 .bf16) (o : Vec Ideal S1x1x256x768 .bf16)
    (k v : Fin 2 → Vec Ideal S1x1x512x128 .bf16) (i : Fin 512) (e : Fin 768) :
    block4 x w o k v (ix2 i e) = ∑ l : Fin 256,
      mean (query (wide x) (cols4 w ⟨l.val / 64, by omega⟩)) (pick k ⟨l.val / 128, by omega⟩ ⟨l.val / 64 % 2, by omega⟩)
        (pick v ⟨l.val / 128, by omega⟩ ⟨l.val / 64 % 2, by omega⟩) i ⟨l.val % 64, by omega⟩ * o (ix4 0 0 l e) := by
  refine (dot4_apply _ o i e).trans (Finset.sum_congr rfl fun l _ => congrArg (· * o (ix4 0 0 l e)) ?_)
  refine (cat4_apply _ _ _ _ (fun n => mean (query (wide x) (cols4 w n)) (pick k ⟨n.val / 2, by omega⟩ ⟨n.val % 2, by omega⟩) (pick v ⟨n.val / 2, by omega⟩ ⟨n.val % 2, by omega⟩))
    (head_q4 x w 0 _ _ _ _ _ (slice4 _ 0 _) (rows_lo k 0) (rows_lo v 0)) (head_q4 x w 1 _ _ _ _ _ (slice4 _ 1 _) (rows_hi k 0) (rows_hi v 0))
    (head_q4 x w 2 _ _ _ _ _ (slice4 _ 2 _) (rows_lo k 1) (rows_lo v 1)) (head_q4 x w 3 _ _ _ _ _ (slice4 _ 3 _) (rows_hi k 1) (rows_hi v 1)) i l).trans ?_
  simp only [Nat.div_div_eq_div_mul, Nat.reduceMul]

theorem block8_apply (x : FVec Ideal S512x768 .bf16) (w : Vec Ideal S768x512 .bf16) (o : Vec Ideal S512x768 .bf16)
    (k v : Fin 4 → Vec Ideal S1x1x512x128 .bf16) (i : Fin 512) (e : Fin 768) :
    block8 x w o k v (ix2 i e) = ∑ l : Fin 512,
      mean (query (wide x) (cols8 w ⟨l.val / 64, by omega⟩)) (pick k ⟨l.val / 128, by omega⟩ ⟨l.val / 64 % 2, by omega⟩)
        (pick v ⟨l.val / 128, by omega⟩ ⟨l.val / 64 % 2, by omega⟩) i ⟨l.val % 64, by omega⟩ * o (ix2 l e) := by
  refine (dot8_apply _ o i e).trans (Finset.sum_congr rfl fun l _ => congrArg (· * o (ix2 l e)) ?_)
  refine (cat8_apply _ _ _ _ _ _ _ _ (fun n => mean (query (wide x) (cols8 w n)) (pick k ⟨n.val / 2, by omega⟩ ⟨n.val % 2, by omega⟩) (pick v ⟨n.val / 2, by omega⟩ ⟨n.val % 2, by omega⟩))
    (head_q8 x w 0 _ _ _ _ _ (slice8 _ 0 _) (rows_lo k 0) (rows_lo v 0)) (head_q8 x w 1 _ _ _ _ _ (slice8 _ 1 _) (rows_hi k 0) (rows_hi v 0))
    (head_q8 x w 2 _ _ _ _ _ (slice8 _ 2 _) (rows_lo k 1) (rows_lo v 1)) (head_q8 x w 3 _ _ _ _ _ (slice8 _ 3 _) (rows_hi k 1) (rows_hi v 1))
    (head_q8 x w 4 _ _ _ _ _ (slice8 _ 4 _) (rows_lo k 2) (rows_lo v 2)) (head_q8 x w 5 _ _ _ _ _ (slice8 _ 5 _) (rows_hi k 2) (rows_hi v 2))
    (head_q8 x w 6 _ _ _ _ _ (slice8 _ 6 _) (rows_lo k 3) (rows_lo v 3)) (head_q8 x w 7 _ _ _ _ _ (slice8 _ 7 _) (rows_hi k 3) (rows_hi v 3)) i l).trans ?_
  simp only [Nat.div_div_eq_div_mul, Nat.reduceMul]

end Cert.KernelIdeal.Ring
-- ==== Proof.Value.Inputs.lean ====
/-
# What a device's parts hold, by the entries of the inputs
-/
module

public import proofs.«01_k».proof.Proof.KernelIdeal.Region
public import Idealize.ShloMosaic.Lib.StableHlo.Run
public import proofs.«01_k».proof.Proof.Value.Contributions

@[expose] public section

set_option maxRecDepth 16384

noncomputable section

namespace Cert.KernelIdeal.Ring

open Cert.KernelIdeal Cert.KernelIdeal.Gen Cert.Value
open Idealize.ShloMosaic
open Idealize.ShloMosaic.TcCoe

variable (m : (ℓ : Loc nD τ sig) → Buf (Elt Ideal) ℓ) (c : Dev nD)

/-- The first of the two batches whose keys and values the device cuts out, as it computes the word. -/
def firstBatch : IVec S_ 32 :=
  select (cmpi .slt (muli (Host.remui (Host.divui (constantI S_ 32 (Dev.word c)) (constantI S_ 32 1#32)) (constantI S_ 32 4#32)) (constantI S_ 32 2#32)) (constantI S_ 32 0#32))
    (addi (muli (Host.remui (Host.divui (constantI S_ 32 (Dev.word c)) (constantI S_ 32 1#32)) (constantI S_ 32 4#32)) (constantI S_ 32 2#32)) (constantI S_ 32 8#32))
    (muli (Host.remui (Host.divui (constantI S_ 32 (Dev.word c)) (constantI S_ 32 1#32)) (constantI S_ 32 4#32)) (constantI S_ 32 2#32))

theorem firstBatch_eq : ∀ c : Dev nD, (firstBatch c (Shape.Idx.first h_S_)).toInt = 2 * (c.val : ℤ) := by decide +kernel

/-- The keys or values of two batches, rounded and packed two heads to a row, pairs first. -/
def packed (A : FVec Ideal S8x512x32x64 .f32) (start : Fin 4 → ℤ) : FVec Ideal S16x2x512x128 .bf16 :=
  transpose S16x2x512x128 [2, 0, 1, 3]
    (shapeCast S2x512x16x128
      (truncf .bf16 (Host.dynamicSlice S2x512x32x64 A start sliceFits_S8x512x32x64_S2x512x32x64) bitsLt_bf16_f32 : FVec Ideal S2x512x32x64 .bf16)
      shapeCasts_S2x512x32x64_S2x512x16x128)
    transposes_S2x512x16x128_S16x2x512x128_2_0_1_3

theorem keys_eq : V1 m c main_v12 = packed (m ((c : Thread nD τ).loc main_arg2)) ![2 * (c.val : ℤ), 0, 0, 0] := by
  unfold V1 hostOps0
  after_results_simp
  refine congrArg (packed (m ((c : Thread nD τ).loc main_arg2))) (funext fun k => ?_)
  fin_cases k
  · simp only [Fin.zero_eta, Fin.mk_one, Fin.reduceFinMk, Matrix.cons_val]
    after_results_simp
    exact firstBatch_eq c
  all_goals
    simp only [Fin.zero_eta, Fin.mk_one, Fin.reduceFinMk, Matrix.cons_val]
    after_results_simp
    rfl

theorem values_eq : V1 m c main_v20 = packed (m ((c : Thread nD τ).loc main_arg3)) ![2 * (c.val : ℤ), 0, 0, 0] := by
  unfold V1 hostOps0
  after_results_simp
  refine congrArg (packed (m ((c : Thread nD τ).loc main_arg3))) (funext fun k => ?_)
  fin_cases k
  · simp only [Fin.zero_eta, Fin.mk_one, Fin.reduceFinMk, Matrix.cons_val]
    after_results_simp
    exact firstBatch_eq c
  all_goals
    simp only [Fin.zero_eta, Fin.mk_one, Fin.reduceFinMk, Matrix.cons_val]
    after_results_simp
    rfl

/-- A start inside the array is where the block is cut. -/
theorem start_eq : ∀ c : Dev nD, ∀ k : Fin 4,
    Host.clampedStart S8x512x32x64 S2x512x32x64 rfl ![2 * (c.val : ℤ), 0, 0, 0] k = (![2 * c.val, 0, 0, 0] : Fin 4 → ℕ) k := by decide +kernel

theorem at4 {a₀ a₁ a₂ a₃ : ℕ} {i j : Fin a₀} {i' j' : Fin a₁} {i'' j'' : Fin a₂} {i''' j''' : Fin a₃} (h : i.val = j.val) (h' : i'.val = j'.val)
    (h'' : i''.val = j''.val) (h''' : i'''.val = j'''.val) : ix4 i i' i'' i''' = ix4 j j' j'' j''' := by
  rw [Fin.ext h, Fin.ext h', Fin.ext h'', Fin.ext h''']

theorem two_lt (c : Dev nD) (b : Fin 2) : 2 * c.val + b.val < 8 := by
  have h : c.val < 4 := c.isLt
  omega

theorem packed_apply (A : FVec Ideal S8x512x32x64 .f32) (hp : Fin 16) (b : Fin 2) (j : Fin 512) (l : Fin 128) :
    packed A ![2 * (c.val : ℤ), 0, 0, 0] (ix4 hp b j l)
      = A (ix4 ⟨2 * c.val + b.val, two_lt c b⟩ j ⟨2 * hp.val + l.val / 64, by omega⟩ ⟨l.val % 64, by omega⟩) := by
  pointwise [packed]
  refine congrArg A (at4 ?_ ?_ ?_ ?_)
  · exact congrArg (· + b.val) (start_eq c 0)
  · exact (congrArg (· + j.val) (start_eq c 1)).trans (Nat.zero_add _)
  · refine (congrArg (· + (hp.val * 2 + l.val / 64)) (start_eq c 2)).trans ?_
    show 0 + (hp.val * 2 + l.val / 64) = 2 * hp.val + l.val / 64
    omega
  · exact (congrArg (· + l.val % 64) (start_eq c 3)).trans (Nat.zero_add _)

variable (D : Data Ideal)

theorem kAt_apply (off : Fin 4 → ℕ) (inb : ∀ a, off a + S1x1x512x128.size a ≤ S16x2x512x128.size a) (p : Fin 16) (b : Fin 2)
    (h : off = ![p.val, b.val, 0, 0]) (j : Fin 512) (l : Fin 128) : kAt D c off inb (ix4 0 0 j l) = D.kk c (ix4 p b j l) := by
  subst h
  refine congrArg (D.kk c) ?_
  show (Rect.unit (s := S16x2x512x128) ![p.val, b.val, 0, 0] S1x1x512x128.size inb).idx (ix4 0 0 j l) = ix4 p b j l
  pointwise

theorem vAt_apply (off : Fin 4 → ℕ) (inb : ∀ a, off a + S1x1x512x128.size a ≤ S16x2x512x128.size a) (p : Fin 16) (b : Fin 2)
    (h : off = ![p.val, b.val, 0, 0]) (j : Fin 512) (l : Fin 128) : vAt D c off inb (ix4 0 0 j l) = D.vv c (ix4 p b j l) := by
  subst h
  refine congrArg (D.vv c) ?_
  show (Rect.unit (s := S16x2x512x128) ![p.val, b.val, 0, 0] S1x1x512x128.size inb).idx (ix4 0 0 j l) = ix4 p b j l
  pointwise

theorem xRow_apply (X : S2x512x768.Idx → Elt Ideal .f32) (b : Fin 2) (i : Fin 512) (e : Fin 768) : wide (xRow X b) i e = X (ix3 b i e) := by
  fin_cases b
  · show k0_pay5 (xRow0 X) (ix2 i e) = X (ix3 0 i e)
    pointwise [k0_pay5]
    refine congrArg X ?_
    show rows0.idx (ix3 0 i e) = ix3 0 i e
    pointwise [rows0]
  · show k0_pay6 (xRow1 X) (ix2 i e) = X (ix3 1 i e)
    pointwise [k0_pay6]
    refine congrArg X ?_
    show rows1.idx (ix3 0 i e) = ix3 1 i e
    pointwise [rows1]

theorem halfQ_apply (d : Fin 2) (o : Dev nD) (e : Fin 768) (l : Fin 256) : halfQ D d o (ix2 e l) = D.wq o (ix2 e ⟨256 * d.val + l.val, by omega⟩) := by
  refine congrArg (D.wq o) ?_
  show (Rect.unit (s := S768x512) ![0, 256 * d.val] S768x256.size (inb_qH d)).idx (ix2 e l) = _
  pointwise

theorem halfO_apply (d : Fin 2) (o : Dev nD) (l : Fin 256) (e : Fin 768) : halfO D d o (ix2 l e) = D.wo o (ix2 ⟨256 * d.val + l.val, by omega⟩ e) := by
  refine congrArg (D.wo o) ?_
  show (Rect.unit (s := S512x768) ![256 * d.val, 0] S256x768.size (inb_oH d)).idx (ix2 l e) = _
  pointwise

theorem unsqueezeQ (hn : S768x256.numel = S1x1x768x256.numel) (e : Fin 768) (l : Fin 256) :
    (Shape.reshapeEquiv hn (ix2 e l) : S1x1x768x256.Idx) = ix4 0 0 e l := by
  pointwise
theorem unsqueezeO (hn : S256x768.numel = S1x1x256x768.numel) (l : Fin 256) (e : Fin 768) :
    (Shape.reshapeEquiv hn (ix2 l e) : S1x1x256x768.Idx) = ix4 0 0 l e := by
  pointwise

theorem slotQ (d : Fin 2) (h : Fin 3) (e : Fin 768) (l : Fin 256) (f : S2x3x768x256.Idx → Elt Ideal .bf16) :
    qcM.view.readAt (Elt Ideal) (Rect.unit (s := S2x3x768x256) ![d.val, h.val, 0, 0] S1x1x768x256.size (inb_qS d h)).toLoadRect f (ix4 0 0 e l)
      = (qS d h).view.read (Elt Ideal) f (ix2 e l) := by
  refine congrArg f ?_
  exact congrArg (Rect.unit (s := S2x3x768x256) ![d.val, h.val, 0, 0] S1x1x768x256.size (inb_qS d h)).idx (unsqueezeQ _ e l).symm

theorem slotO (d : Fin 2) (h : Fin 3) (l : Fin 256) (e : Fin 768) (f : S2x3x256x768.Idx → Elt Ideal .bf16) :
    ocM.view.readAt (Elt Ideal) (Rect.unit (s := S2x3x256x768) ![d.val, h.val, 0, 0] S1x1x256x768.size (inb_oS d h)).toLoadRect f (ix4 0 0 l e)
      = (oS d h).view.read (Elt Ideal) f (ix2 l e) := by
  refine congrArg f ?_
  exact congrArg (Rect.unit (s := S2x3x256x768) ![d.val, h.val, 0, 0] S1x1x256x768.size (inb_oS d h)).idx (unsqueezeO _ l e).symm

theorem gotQ_apply (d : Fin 2) (h : Fin 3) (e : Fin 768) (l : Fin 256) :
    gotQ D c d h (ix4 0 0 e l) = D.wq (org d h c) (ix2 e ⟨256 * d.val + l.val, by omega⟩) :=
  ((slotQ d h e l _).trans (congrFun (View.read_rep (qS d h).view (halfQ D d (org d h c))) (ix2 e l))).trans (halfQ_apply D d _ e l)

theorem gotO_apply (d : Fin 2) (h : Fin 3) (l : Fin 256) (e : Fin 768) :
    gotO D c d h (ix4 0 0 l e) = D.wo (org d h c) (ix2 ⟨256 * d.val + l.val, by omega⟩ e) :=
  ((slotO d h l e _).trans (congrFun (View.read_rep (oS d h).view (halfO D d (org d h c))) (ix2 l e))).trans (halfO_apply D d _ l e)

end Cert.KernelIdeal.Ring
-- ==== Proof.Value.Kernel.lean ====
/-
# The kernel's result, by the entries of the whole inputs
-/
module

public import proofs.«01_k».proof.Proof.Value.Inputs
public import Idealize.ShloMosaic.Lib.Layout

@[expose] public section

set_option maxRecDepth 16384

noncomputable section

namespace Cert.KernelIdeal.Ring

open Cert.KernelIdeal Cert.KernelIdeal.Gen Cert.Value
open Idealize.ShloMosaic
open Idealize.ShloMosaic.TcCoe

/-! ## Where the keys and values lie -/

theorem offOwn_eq : ∀ (c : Dev nD) (b : Fin 2) (r : Fin 4), offOwn c b r = ![4 * c.val + r.val, b.val, 0, 0] := by decide +kernel
theorem offHop_eq : ∀ (c : Dev nD) (b d : Fin 2) (h : Fin 3) (r : Fin 2),
    offHop c b d h r = ![4 * (org d h c).val + 2 * d.val + r.val, b.val, 0, 0] := by decide +kernel

theorem dev_lt (c : Dev nD) : c.val < 4 := c.isLt

/-- Column `n` of device `c`'s 512 among all 2048. -/
abbrev at512 (c : Dev nD) (n : Fin 512) : Fin 2048 := ⟨512 * c.val + n.val, by have := dev_lt c; omega⟩
/-- Batch `b` of device `c`'s two among all eight. -/
abbrev at2 (c : Dev nD) (b : Fin 2) : Fin 8 := ⟨2 * c.val + b.val, two_lt c b⟩
/-- The half that travels from device `c` in direction `d`, among the eight halves. -/
abbrev atHalf (c : Dev nD) (d : Fin 2) : Fin 8 := ⟨2 * c.val + d.val, two_lt c d⟩

variable (A0 : (⟨3, ![8, 512, 768]⟩ : Shape).Idx → EReal) (A1 : (⟨2, ![768, 2048]⟩ : Shape).Idx → EReal)
  (A2 A3 : (⟨4, ![8, 512, 32, 64]⟩ : Shape).Idx → EReal) (A4 : (⟨2, ![2048, 768]⟩ : Shape).Idx → EReal)

/-- What the devices' contents are of the whole inputs. -/
structure Holds (D : Data Ideal) : Prop where
  wq : ∀ c e n, D.wq c (ix2 e n) = A1 (ix2 e (at512 c n))
  wo : ∀ c n e, D.wo c (ix2 n e) = A4 (ix2 (at512 c n) e)
  kk : ∀ c (p : Fin 16) b j (l : Fin 128), D.kk c (ix4 p b j l) = A2 (ix4 (at2 c b) j ⟨2 * p.val + l.val / 64, by omega⟩ ⟨l.val % 64, by omega⟩)
  vv : ∀ c (p : Fin 16) b j (l : Fin 128), D.vv c (ix4 p b j l) = A3 (ix4 (at2 c b) j ⟨2 * p.val + l.val / 64, by omega⟩ ⟨l.val % 64, by omega⟩)

variable {A0 A1 A2 A3 A4} {D : Data Ideal} (H : Holds A1 A2 A3 A4 D) (c : Dev nD)
  {X : S2x512x768.Idx → Elt Ideal .f32} (hX : ∀ b i e, X (ix3 b i e) = A0 (ix3 (at2 c b) i e))

theorem at4_head {B : Fin 8} {j : Fin 512} {p p' : Fin 32} {d d' : Fin 64} (h : p.val = p'.val) (h' : d.val = d'.val) :
    (ix4 B j p d : (⟨4, ![8, 512, 32, 64]⟩ : Shape).Idx) = ix4 B j p' d' := at4 rfl rfl h h'

include H in
theorem pick_k {n : ℕ} (off : Fin n → Fin 4 → ℕ) (inb : ∀ r a, off r a + S1x1x512x128.size a ≤ S16x2x512x128.size a) (r : Fin n) (t b : Fin 2)
    (p : Fin 16) (h : off r = ![p.val, b.val, 0, 0]) (G : Fin 32) (hG : G.val = 2 * p.val + t.val) :
    pick (fun r => kAt D c (off r) (inb r)) r t = headOf A2 (at2 c b) G := by
  funext j d
  refine (kAt_apply c D (off r) (inb r) p b h j _).trans ((H.kk c p b j _).trans (congrArg A2 (at4_head ?_ ?_)))
  · show 2 * p.val + (64 * t.val + d.val) / 64 = G.val; omega
  · show (64 * t.val + d.val) % 64 = d.val; omega

include H in
theorem pick_v {n : ℕ} (off : Fin n → Fin 4 → ℕ) (inb : ∀ r a, off r a + S1x1x512x128.size a ≤ S16x2x512x128.size a) (r : Fin n) (t b : Fin 2)
    (p : Fin 16) (h : off r = ![p.val, b.val, 0, 0]) (G : Fin 32) (hG : G.val = 2 * p.val + t.val) :
    pick (fun r => vAt D c (off r) (inb r)) r t = headOf A3 (at2 c b) G := by
  funext j d
  refine (vAt_apply c D (off r) (inb r) p b h j _).trans ((H.vv c p b j _).trans (congrArg A3 (at4_head ?_ ?_)))
  · show 2 * p.val + (64 * t.val + d.val) / 64 = G.val; omega
  · show (64 * t.val + d.val) % 64 = d.val; omega

include hX in
theorem wide_eq (b : Fin 2) : wide (xRow X b) = rowsOf A0 (at2 c b) := by
  funext i e
  exact (xRow_apply X b i e).trans (hX b i e)

theorem mean_lane {x : Fin 512 → Fin 768 → EReal} {w : Fin 768 → Fin 64 → EReal} {k v : Fin 512 → Fin 64 → EReal} {B : Fin 8} {G G' : Fin 32}
    (hx : x = rowsOf A0 B) (hw : w = colsOf A1 G) (hk : k = headOf A2 B G) (hv : v = headOf A3 B G) (hG : G.val = G'.val) (i : Fin 512)
    {d d' : Fin 64} (hd : d.val = d'.val) : mean (query x w) k v i d = Cert.Value.lane A0 A1 A2 A3 B i G' d' := by
  rw [hx, hw, hk, hv, Fin.ext hd, ← Fin.ext hG]; rfl

include H hX in
theorem own_apply (b : Fin 2) (i : Fin 512) (e : Fin 768) :
    own D c X b (ix2 i e) = ∑ l : Fin 512, term A0 A1 A2 A3 A4 (at2 c b) i e (at512 c l) := by
  have hc := dev_lt c
  refine (block8_apply _ _ _ _ _ i e).trans (Finset.sum_congr rfl fun l _ => congrArg₂ (· * ·) ?_ (H.wo c l e))
  refine mean_lane (G := ⟨8 * c.val + l.val / 64, by omega⟩) (wide_eq c hX b) ?_
    (pick_k H c _ _ _ _ b ⟨4 * c.val + l.val / 128, by omega⟩ (offOwn_eq c b ⟨l.val / 128, by omega⟩) _ ?_)
    (pick_v H c _ _ _ _ b ⟨4 * c.val + l.val / 128, by omega⟩ (offOwn_eq c b ⟨l.val / 128, by omega⟩) _ ?_) ?_ i ?_
  · funext e d
    refine (H.wq c e _).trans (congrArg (fun n => A1 (ix2 e n)) (Fin.ext ?_))
    show 512 * c.val + (64 * (l.val / 64) + d.val) = 64 * (8 * c.val + l.val / 64) + d.val
    omega
  · show 8 * c.val + l.val / 64 = 2 * (4 * c.val + l.val / 128) + l.val / 64 % 2; omega
  · show 8 * c.val + l.val / 64 = 2 * (4 * c.val + l.val / 128) + l.val / 64 % 2; omega
  · show 8 * c.val + l.val / 64 = (512 * c.val + l.val) / 64; omega
  · show l.val % 64 = (512 * c.val + l.val) % 64; omega

include H hX in
theorem hop_apply (b d : Fin 2) (h : Fin 3) (i : Fin 512) (e : Fin 768) :
    hop D c X b d h (ix2 i e) = part (term A0 A1 A2 A3 A4 (at2 c b) i e) (atHalf (org d h c) d) := by
  have hg := dev_lt (org d h c)
  refine (block4_apply _ _ _ _ _ i e).trans (Finset.sum_congr rfl fun l _ => congrArg₂ (· * ·) ?_ ?_)
  · refine mean_lane (G := ⟨8 * (org d h c).val + 4 * d.val + l.val / 64, by omega⟩) (wide_eq c hX b) ?_
      (pick_k H c _ _ _ _ b ⟨4 * (org d h c).val + 2 * d.val + l.val / 128, by omega⟩ (offHop_eq c b d h ⟨l.val / 128, by omega⟩) _ ?_)
      (pick_v H c _ _ _ _ b ⟨4 * (org d h c).val + 2 * d.val + l.val / 128, by omega⟩ (offHop_eq c b d h ⟨l.val / 128, by omega⟩) _ ?_) ?_ i ?_
    · funext e d'
      refine (gotQ_apply c D d h e _).trans ((H.wq (org d h c) e _).trans (congrArg (fun n => A1 (ix2 e n)) (Fin.ext ?_)))
      show 512 * (org d h c).val + (256 * d.val + (64 * (l.val / 64) + d'.val)) = 64 * (8 * (org d h c).val + 4 * d.val + l.val / 64) + d'.val
      omega
    · show 8 * (org d h c).val + 4 * d.val + l.val / 64 = 2 * (4 * (org d h c).val + 2 * d.val + l.val / 128) + l.val / 64 % 2; omega
    · show 8 * (org d h c).val + 4 * d.val + l.val / 64 = 2 * (4 * (org d h c).val + 2 * d.val + l.val / 128) + l.val / 64 % 2; omega
    · show 8 * (org d h c).val + 4 * d.val + l.val / 64 = (256 * (2 * (org d h c).val + d.val) + l.val) / 64; omega
    · show l.val % 64 = (256 * (2 * (org d h c).val + d.val) + l.val) % 64; omega
  · refine (gotO_apply c D d h l e).trans ((H.wo (org d h c) _ e).trans (congrArg (fun n => A4 (ix2 n e)) (Fin.ext ?_)))
    show 512 * (org d h c).val + (256 * d.val + l.val) = 256 * (2 * (org d h c).val + d.val) + l.val
    omega

/-- The eighths in the order device `c` adds them. -/
def order (c : Dev nD) : Fin 8 → Fin 8 :=
  ![atHalf c 0, atHalf c 1, atHalf (org 0 0 c) 0, atHalf (org 1 0 c) 1, atHalf (org 0 1 c) 0, atHalf (org 1 1 c) 1, atHalf (org 0 2 c) 0, atHalf (org 1 2 c) 1]

theorem order_inj : ∀ c : Dev nD, Function.Injective (order c) := by decide +kernel

/-- They are all eight. -/
theorem order_parts (f : Fin 8 → EReal) (c : Dev nD) :
    f (atHalf c 0) + f (atHalf c 1) + f (atHalf (org 0 0 c) 0) + f (atHalf (org 1 0 c) 1) + f (atHalf (org 0 1 c) 0) + f (atHalf (org 1 1 c) 1)
      + f (atHalf (org 0 2 c) 0) + f (atHalf (org 1 2 c) 1) = ∑ z, f z :=
  (Fin.sum_univ_eight fun z => f (order c z)).symm.trans
    ((Finite.injective_iff_bijective.mp (order_inj c)).sum_comp f)

theorem add_apply (y : Vec Ideal S1x512x768 .f32) (p : FVec Ideal S512x768 .f32) (i : Fin 512) (e : Fin 768) :
    add y p (ix3 0 i e) = y (ix3 0 i e) + p (ix2 i e) := by
  pointwise [add]

theorem first_apply (p : FVec Ideal S512x768 .f32) (i : Fin 512) (e : Fin 768) :
    (shapeCast S1x512x768 p shapeCasts_S512x768_S1x512x768 : Vec Ideal S1x512x768 .f32) (ix3 0 i e) = p (ix2 i e) := by
  pointwise

include H hX in
theorem total_apply (b : Fin 2) (i : Fin 512) (e : Fin 768) : total D c X b (ix3 0 i e) = entry A0 A1 A2 A3 A4 (at2 c b) i e := by
  unfold total entry
  rw [add_apply, add_apply, add_apply, add_apply, add_apply, add_apply, first_apply, own_apply H c hX]
  simp only [hop_apply H c hX]
  rw [sum_parts, ← order_parts _ c]
  exact congrArg (fun t => t + _ + _ + _ + _ + _ + _) (part_pair (term A0 A1 A2 A3 A4 (at2 c b) i e) c)

include H hX in
/-- The device's block of the result. -/
theorem result_apply (b : Fin 2) (i : Fin 512) (e : Fin 768) : result D c X (ix3 b i e) = entry A0 A1 A2 A3 A4 (at2 c b) i e := by
  refine Eq.trans (congrArg (total D c X b) ?_) (total_apply H c hX b i e)
  funext a
  match a with
  | 0 => rfl
  | 1 => rfl
  | 2 => rfl

end Cert.KernelIdeal.Ring
-- ==== Proof.Value.Reference.lean ====
/-
# The reference, by its entries
-/
module

public import proofs.«01_k».proof.Proof.Gen.ReferenceIdeal.Run
public import proofs.«01_k».proof.Proof.Value.Attention

@[expose] public section

set_option maxRecDepth 16384

noncomputable section

namespace Cert.ReferenceIdeal.Value

open Cert.ReferenceIdeal Cert.ReferenceIdeal.Gen
open Idealize.ShloMosaic
open Idealize.ShloMosaic.TcCoe
open Cert.Value
open Facts

/-! ## The reference's steps, named -/

/-- The number of the block of 64 rows each row lies in. -/
def blockNo : IVec S512 32 :=
  select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32))))
    (subi (Host.divsi (iotaInDim S512 32 0) (broadcastInDim S512 ![] bcast_S_S512 (id (constantI S_ 32 64#32)))) (broadcastInDim S512 ![] bcast_S_S512 (constantI S_ 32 1#32)))
    (Host.divsi (iotaInDim S512 32 0) (broadcastInDim S512 ![] bcast_S_S512 (id (constantI S_ 32 64#32))))

/-- Which keys a query sees. -/
def sees : IVec S512x512 1 :=
  cmpi .sle (broadcastInDim S512x512 ![0, 1] bcast_S1x512_S512x512_0_1 (broadcastInDim S1x512 ![1] bcast_S512_S1x512_1 blockNo))
    (broadcastInDim S512x512 ![0, 1] bcast_S512x1_S512x512_0_1 (broadcastInDim S512x1 ![0] bcast_S512_S512x1_0 blockNo))

/-- Which queries see some key. -/
def keep : IVec S512 1 := Host.reduce IntOp.ori sees (constantI S_ 1 0#1) reducesTo_S512x512_S512_d1 h_S_

variable (A0 : FVec Ideal S8x512x768 .f32) (A1 : FVec Ideal S768x2048 .f32) (A2 A3 : FVec Ideal S8x512x32x64 .f32) (A4 : FVec Ideal S2048x768 .f32)

/-- The queries by head. -/
def queries : FVec Ideal S8x512x32x64 .f32 :=
  shapeCast _ (Host.dotGeneral dot_S8x512x768_S768x2048_S8x512x2048_2_0_01_1_n_n none A0 A1) shapeCasts_S8x512x2048_S8x512x32x64

/-- The masked scores. -/
def scores : FVec Ideal S8x32x512x512 .f32 :=
  select (broadcastInDim S8x32x512x512 ![0, 1, 2, 3] bcast_S1x1x512x512_S8x32x512x512_0_1_2_3 (broadcastInDim S1x1x512x512 ![2, 3] bcast_S512x512_S1x1x512x512_2_3 sees))
    (mulf (Host.dotGeneral dot_S8x512x32x64_S8x512x32x64_S8x32x512x512_3_3_1_1_02_02 none (queries A0 A1) A2)
      (broadcastInDim S8x32x512x512 ![] bcast_S_S8x32x512x512 (constant S_ .f32 0x3E000000#32)))
    (broadcastInDim S8x32x512x512 ![] bcast_S_S8x32x512x512 (id (constant S_ .f32 0xFF800000#32)))

/-- The exponentials of the scores less their row's maximum. -/
def powers : FVec Ideal S8x32x512x512 .f32 :=
  Host.exp (subf (scores A0 A1 A2) (broadcastInDim S8x32x512x512 ![0, 1, 2, 3] bcast_S8x32x512x1_S8x32x512x512_0_1_2_3
    (broadcastInDim S8x32x512x1 ![0, 1, 2] bcast_S8x32x512_S8x32x512x1_0_1_2
      (Host.reduce FloatOps.maximumf (scores A0 A1 A2) (constant S_ .f32 0xFF800000#32) reducesTo_S8x32x512x512_S8x32x512_d3 h_S_))))

/-- The weights. -/
def weights : FVec Ideal S8x32x512x512 .f32 :=
  select (broadcastInDim S8x32x512x512 ![0, 1, 2, 3] bcast_S1x1x512x1_S8x32x512x512_0_1_2_3 (broadcastInDim S1x1x512x1 ![2] bcast_S512_S1x1x512x1_2 keep))
    (Host.divf (powers A0 A1 A2) (broadcastInDim S8x32x512x512 ![0, 1, 2, 3] bcast_S8x32x512x1_S8x32x512x512_0_1_2_3
      (select (broadcastInDim S8x32x512x1 ![0, 1, 2, 3] bcast_S1x1x512x1_S8x32x512x1_0_1_2_3 (broadcastInDim S1x1x512x1 ![2] bcast_S512_S1x1x512x1_2 keep))
        (broadcastInDim S8x32x512x1 ![0, 1, 2] bcast_S8x32x512_S8x32x512x1_0_1_2
          (Host.reduceAdd (powers A0 A1 A2) (constant S_ .f32 0x00000000#32) reducesTo_S8x32x512x512_S8x32x512_d3 h_S_))
        (broadcastInDim S8x32x512x1 ![] bcast_S_S8x32x512x1 (id (constant S_ .f32 0x3F800000#32))))))
    (broadcastInDim S8x32x512x512 ![] bcast_S_S8x32x512x512 (id (constant S_ .f32 0x00000000#32)))

/-- The heads' outputs. -/
def outputs : FVec Ideal S8x512x2048 .f32 :=
  shapeCast _ (transpose S8x512x32x64 [0, 3, 1, 2]
    (Host.dotGeneral dot_S8x512x32x64_S8x32x512x512_S8x32x64x512_1_3_3_2_02_01 none A3 (weights A0 A1 A2)) transposes_S8x32x64x512_S8x512x32x64_0_3_1_2)
    shapeCasts_S8x512x32x64_S8x512x2048

/-- The reference's result. -/
def whole : FVec Ideal S8x512x768 .f32 :=
  Host.dotGeneral dot_S8x512x2048_S2048x768_S8x512x768_2_0_01_1_n_n none (outputs A0 A1 A2 A3) A4

set_option maxHeartbeats 2000000 in
theorem res_eq (m : (ℓ : Loc nD τ sig) → Buf (Elt Ideal) ℓ) (c : Dev nD) :
    res_main_v33 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_main_v33 whole outputs weights powers scores queries keep sees blockNo
  rfl

/-! ## At an index -/

theorem whole_apply (B : Fin 8) (i : Fin 512) (e : Fin 768) : whole A0 A1 A2 A3 A4 (ix3 B i e) = ∑ n, outputs A0 A1 A2 A3 (ix3 B i n) * A4 (ix2 n e) := by
  pointwise [whole]

theorem outputs_apply (B : Fin 8) (i : Fin 512) (n : Fin 2048) : outputs A0 A1 A2 A3 (ix3 B i n) =
    ∑ j, A3 (ix4 B j ⟨n.val / 64, by omega⟩ ⟨n.val % 64, by omega⟩) * weights A0 A1 A2 (ix4 B ⟨n.val / 64, by omega⟩ i j) := by
  pointwise [outputs]

/-- The sign of a word. -/
def signWord (x : BitVec 32) : BitVec 32 := if x = 0 then 0 else if x.msb = true then -1 else 1

/-- The quotient by 64 rounded down, as the words compute it. -/
def floorWord (x : BitVec 32) : BitVec 32 :=
  Scalar.select (IntOp.andi (IntOp.cmpi .ne (signWord x) (signWord 64#32)) (IntOp.cmpi .ne (IntOp.remsi .host x 64#32) 0#32))
    (IntOp.subi (IntOp.divsi .host x 64#32) 1#32) (IntOp.divsi .host x 64#32)

theorem floorWord_eq : ∀ a : Fin 512, floorWord (BitVec.ofNat 32 a.val) = BitVec.ofNat 32 (a.val / 64) := by decide +kernel

theorem blockNo_apply (a : Fin 512) : blockNo (ix1 a) = BitVec.ofNat 32 (a.val / 64) := by
  pointwise [blockNo]
  exact floorWord_eq a

theorem block_le : ∀ p q : Fin 8, IntOp.cmpi .sle (BitVec.ofNat 32 p.val) (BitVec.ofNat 32 q.val) = if p.val ≤ q.val then 1#1 else 0#1 := by decide +kernel

theorem sees_apply (a b : Fin 512) : sees (ix2 a b) = if b.val / 64 ≤ a.val / 64 then 1#1 else 0#1 := by
  pointwise [sees, blockNo_apply]
  exact block_le ⟨b.val / 64, by omega⟩ ⟨a.val / 64, by omega⟩

/-- Every query sees the first key. -/
theorem keep_apply (a : Fin 512) : keep (ix1 a) = 1#1 := by
  pointwise [keep, sees_apply]
  have one_or : ∀ b : BitVec 1, IntOp.ori 1#1 b = 1#1 := by decide
  rw [← Finset.insert_erase (Finset.mem_univ (0 : Fin 512)), Finset.fold_insert (Finset.notMem_erase _ _), if_pos (by simp)]
  exact one_or _

theorem ofBits_bot : Ideal.ofBits .f32 0xFF800000#32 = ⊥ := by simp [Ideal.ofBits, Ideal.ieee]

/-- A score before the mask. -/
def raw (B : Fin 8) (h : Fin 32) (i j : Fin 512) : EReal :=
  (∑ d, (∑ e, rowsOf A0 B i e * colsOf A1 h e d) * headOf A2 B h j d) * eighth

theorem scores_apply (B : Fin 8) (h : Fin 32) (i j : Fin 512) : scores A0 A1 A2 (ix4 B h i j) =
    if j.val / 64 ≤ i.val / 64 then raw A0 A1 A2 B h i j else ⊥ := by
  have hc : ∀ (e : Fin 768) (d : Fin 64) (hl : h.val * 64 + d.val < 2048), A1 (ix2 e ⟨h.val * 64 + d.val, hl⟩) = colsOf A1 h e d := fun e d hl =>
    congrArg (fun n => A1 (ix2 e n)) (Fin.ext (by show h.val * 64 + d.val = 64 * h.val + d.val; omega))
  pointwise [scores, sees_apply, queries]
  simp only [hc]
  by_cases hs : j.val / 64 ≤ i.val / 64
  · simp only [if_pos hs]; rfl
  · simp only [if_neg hs]; exact ofBits_bot

theorem powers_apply (B : Fin 8) (h : Fin 32) (i j : Fin 512) : powers A0 A1 A2 (ix4 B h i j) =
    Ideal.exp (scores A0 A1 A2 (ix4 B h i j) - Finset.univ.fold max ⊥ (fun j => scores A0 A1 A2 (ix4 B h i j))) := by
  pointwise [powers]
  rw [ofBits_bot]

theorem weights_apply (B : Fin 8) (h : Fin 32) (i j : Fin 512) : weights A0 A1 A2 (ix4 B h i j) =
    Ideal.div (powers A0 A1 A2 (ix4 B h i j)) (∑ j, powers A0 A1 A2 (ix4 B h i j)) := by
  pointwise [weights, keep_apply]

/-! ## Over finite queries, weights and keys -/

/-- A sum of products of real numbers times one eighth, the eighth taken inside. -/
theorem eighth_inside (q k : Fin 64 → ℝ) : (∑ d, (q d : EReal) * k d) * eighth = ∑ d, ((q d : EReal) * eighth) * k d := by
  rw [eighth_eq]
  simp only [← EReal.coe_mul, ← coe_sum]
  rw [Finset.sum_mul]
  exact congrArg _ (Finset.sum_congr rfl fun d _ => by ring)

variable {A0 A1 A2} (a0 : Fin 8 → Fin 512 → Fin 768 → ℝ) (h0 : ∀ B i e, A0 (ix3 B i e) = a0 B i e)
  (a1 : Fin 768 → Fin 2048 → ℝ) (h1 : ∀ e n, A1 (ix2 e n) = a1 e n)
  (a2 : Fin 8 → Fin 512 → Fin 32 → Fin 64 → ℝ) (h2 : ∀ B j h d, A2 (ix4 B j h d) = a2 B j h d)

include h0 h1 in
theorem query_real (B : Fin 8) (h : Fin 32) (i : Fin 512) (d : Fin 64) : ∃ r : ℝ, (∑ e, rowsOf A0 B i e * colsOf A1 h e d) = r := by
  refine ⟨∑ e, a0 B i e * a1 e ⟨64 * h.val + d.val, by omega⟩, ?_⟩
  rw [coe_sum]
  exact Finset.sum_congr rfl fun e _ => by rw [EReal.coe_mul, ← h0, ← h1]; rfl

include h0 h1 h2 in
theorem raw_eq (B : Fin 8) (h : Fin 32) (i j : Fin 512) :
    raw A0 A1 A2 B h i j = dotRow (query (rowsOf A0 B) (colsOf A1 h)) (headOf A2 B h) i j := by
  choose q hq using query_real a0 h0 a1 h1 B h i
  unfold raw dotRow query
  simp only [hq]
  have hk : ∀ d, headOf A2 B h j d = a2 B j h d := fun d => h2 B j h d
  simp only [hk]
  exact eighth_inside q fun d => a2 B j h d

include h0 h1 h2 in
theorem raw_real (B : Fin 8) (h : Fin 32) (i j : Fin 512) : ∃ r : ℝ, raw A0 A1 A2 B h i j = r := by
  choose q hq using query_real a0 h0 a1 h1 B h i
  refine ⟨(∑ d, q d * a2 B j h d) * (1 / 8), ?_⟩
  unfold raw
  have hk : ∀ d, headOf A2 B h j d = a2 B j h d := fun d => h2 B j h d
  simp only [hq, hk, eighth_eq, ← EReal.coe_mul, ← coe_sum]

include h0 h1 h2 in
/-- A lane of the reference's heads is the mean by weights. -/
theorem outputs_eq (B : Fin 8) (i : Fin 512) (n : Fin 2048) :
    outputs A0 A1 A2 A3 (ix3 B i n) = Cert.Value.lane A0 A1 A2 A3 B i ⟨n.val / 64, by omega⟩ ⟨n.val % 64, by omega⟩ := by
  have hr := raw_real a0 h0 a1 h1 a2 h2 B ⟨n.val / 64, by omega⟩ i
  have hw : ∀ j : Fin 512, Ideal.exp (scores A0 A1 A2 (ix4 B ⟨n.val / 64, by omega⟩ i j)) =
      weight (query (rowsOf A0 B) (colsOf A1 ⟨n.val / 64, by omega⟩)) (headOf A2 B ⟨n.val / 64, by omega⟩) i j := fun j => by
    rw [scores_apply, raw_eq a0 h0 a1 h1 a2 h2]
    unfold weight
    by_cases hs : j.val / 64 ≤ i.val / 64
    · rw [if_pos hs, if_pos hs]
    · rw [if_neg hs, if_neg hs, Ideal.exp_bot]
  rw [outputs_apply]
  simp only [weights_apply, powers_apply]
  refine (mean_eq (fun j => scores A0 A1 A2 (ix4 B ⟨n.val / 64, by omega⟩ i j)) (fun j => A3 (ix4 B j ⟨n.val / 64, by omega⟩ ⟨n.val % 64, by omega⟩))
    (fun j => ?_) (k := i) ?_).trans ?_
  · obtain ⟨r, hr⟩ := hr j
    rw [scores_apply, hr]
    by_cases hs : j.val / 64 ≤ i.val / 64
    · rw [if_pos hs]; exact EReal.coe_ne_top r
    · rw [if_neg hs]; exact bot_ne_top
  · obtain ⟨r, hr⟩ := hr i
    show scores A0 A1 A2 (ix4 B ⟨n.val / 64, _⟩ i i) ≠ ⊥
    rw [scores_apply, hr, if_pos le_rfl]
    exact EReal.coe_ne_bot r
  · simp only [hw]
    rfl

include h0 h1 h2 in
/-- The reference's result, entry by entry. -/
theorem whole_eq (B : Fin 8) (i : Fin 512) (e : Fin 768) : whole A0 A1 A2 A3 A4 (ix3 B i e) = entry A0 A1 A2 A3 A4 B i e := by
  rw [whole_apply]
  exact Finset.sum_congr rfl fun n _ => congrArg (· * A4 (ix2 n e)) (outputs_eq A3 a0 h0 a1 h1 a2 h2 B i n)

end Cert.ReferenceIdeal.Value
-- ==== Proof.Value.Finite.lean ====
/-
# What the precondition says of the arrays

On every device the rows, the query weights and the keys are finite; the devices' blocks make up the arrays.
-/
module

public import proofs.«01_k».proof.Pre_finite_KernelIdeal
public import Idealize.ShloMosaic.Lib.ReduceAll
public import Idealize.ShloMosaic.Lib.Pointwise
public import Idealize.ShloMosaic.Lib.Layout

@[expose] public section

set_option maxRecDepth 16384

noncomputable section

namespace Cert.Pre_finite_KernelIdeal

open Idealize.ShloMosaic
open Facts

/-- The shape relations of the precondition's own operations. -/
theorem facts : Facts where
  bcast_S_S2x512x768 := by decide
  reducesTo_S2x512x768_S_d0_1_2 := by decide
  h_S_ := by decide
  bcast_S_S768x512 := by decide
  reducesTo_S768x512_S_d0_1 := by decide
  bcast_S_S8x512x32x64 := by decide
  reducesTo_S8x512x32x64_S_d0_1_2_3 := by decide

theorem both_one : ∀ a b : BitVec 1, IntOp.andi a b = 1#1 → a = 1#1 ∧ b = 1#1 := by decide

theorem ofBits_top : Ideal.ofBits .f32 0x7F800000#32 = ⊤ := by simp [Ideal.ofBits, Ideal.ieee]

/-- A magnitude below +∞ is a real number's. -/
theorem real_of_lt {x : EReal} (h : Ideal.cmp .olt (max x (-x)) ⊤ = 1#1) : ∃ r : ℝ, x = r := by
  have hlt : max x (-x) < ⊤ := by
    by_contra hn
    rw [show Ideal.cmp .olt (max x (-x)) ⊤ = BitVec.ofBool (decide (max x (-x) < ⊤)) from rfl, decide_eq_false hn] at h
    exact absurd h (by decide)
  induction x with
  | bot => simp at hlt
  | top => simp at hlt
  | coe r => exact ⟨r, rfl⟩

variable [Facts]

instance : Subsingleton S_.Idx := ⟨fun a b => funext fun i => i.elim0⟩

/-- Where all the magnitudes of an array are below +∞, all its entries are real. -/
theorem real_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32))) (constantI S_ 1 1#1) hr hu ix0 = 1#1)
    (i : s.Idx) : ∃ r : ℝ, x i = r := by
  have h1 := Host.reduce_andi_all _ _ hr hu _ h i
  refine real_of_lt (Eq.trans ?_ h1)
  rw [← ofBits_top]
  rfl

/-- The precondition, read of one device's blocks. -/
theorem reals (x : FVec Ideal S2x512x768 .f32) (w : FVec Ideal S768x512 .f32) (k v : FVec Ideal S8x512x32x64 .f32) (o : FVec Ideal S512x768 .f32)
    (h : fn (F := Ideal) x w k v o = fun _ => 1#1) : (∀ i, ∃ r : ℝ, x i = r) ∧ (∀ i, ∃ r : ℝ, w i = r) ∧ ∀ i, ∃ r : ℝ, k i = r := by
  have h0 := congrFun h ix0
  dsimp only [fn] at h0
  obtain ⟨h1, hk⟩ := both_one _ _ h0
  obtain ⟨hx, hw⟩ := both_one _ _ h1
  exact ⟨real_of_all x _ _ _ hx, real_of_all w _ _ _ hw, real_of_all k _ _ _ hk⟩

end Cert.Pre_finite_KernelIdeal
-- ==== Proof.Value.Tie.lean ====
/-
# The kernel's result against the reference's
-/
module

public import proofs.«01_k».proof.Proof.KernelIdeal.Region
public import proofs.«01_k».proof.Proof.Value.Kernel
public import proofs.«01_k».proof.Proof.Value.Reference
public import proofs.«01_k».proof.Proof.Value.Finite

@[expose] public section

set_option maxRecDepth 16384

noncomputable section

namespace Cert.KernelIdeal.Ring

open Cert.KernelIdeal Cert.KernelIdeal.Gen
open Idealize.ShloMosaic
open Idealize.ShloMosaic.TcCoe
open Cert.Value

variable (A0 : (⟨3, ![8, 512, 768]⟩ : Shape).Idx → EReal) (A1 : (⟨2, ![768, 2048]⟩ : Shape).Idx → EReal)
  (A2 A3 : (⟨4, ![8, 512, 32, 64]⟩ : Shape).Idx → EReal) (A4 : (⟨2, ![2048, 768]⟩ : Shape).Idx → EReal)

/-! ## A device's blocks at an index -/

theorem block_rows (c : Dev nD) (b : Fin 2) (i : Fin 512) (e : Fin 768) :
    Layout.block ⟨3, ![2, 512, 768]⟩ ⟨3, ![8, 512, 768]⟩ 0 4 c A0 (by decide) (ix3 b i e) = A0 (ix3 (at2 c b) i e) := by
  refine congrArg A0 (funext fun a => Fin.ext ?_)
  match a with
  | 0 => show c.val * 2 + b.val = 2 * c.val + b.val; omega
  | 1 => rfl
  | 2 => rfl

theorem block_wq (c : Dev nD) (e : Fin 768) (n : Fin 512) :
    Layout.block ⟨2, ![768, 512]⟩ ⟨2, ![768, 2048]⟩ 1 4 c A1 (by decide) (ix2 e n) = A1 (ix2 e (at512 c n)) := by
  refine congrArg A1 (funext fun a => Fin.ext ?_)
  match a with
  | 0 => rfl
  | 1 => show c.val * 512 + n.val = 512 * c.val + n.val; omega

theorem block_wo (c : Dev nD) (n : Fin 512) (e : Fin 768) :
    Layout.block ⟨2, ![512, 768]⟩ ⟨2, ![2048, 768]⟩ 0 4 c A4 (by decide) (ix2 n e) = A4 (ix2 (at512 c n) e) := by
  refine congrArg A4 (funext fun a => Fin.ext ?_)
  match a with
  | 0 => show c.val * 512 + n.val = 512 * c.val + n.val; omega
  | 1 => rfl

theorem pay7_apply (w : Vec Ideal S768x512 .f32) (e : Fin 768) (n : Fin 512) : k0_pay7 w (ix2 e n) = w (ix2 e n) := by
  pointwise [k0_pay7]

theorem pay8_apply (w : Vec Ideal S512x768 .f32) (n : Fin 512) (e : Fin 768) : k0_pay8 w (ix2 n e) = w (ix2 n e) := by
  pointwise [k0_pay8]

/-! ## The launch's data -/

variable (m : (ℓ : Loc nD τ sig) → Buf (Elt Ideal) ℓ)
  (hm : ∀ c : Dev nD,
    m ((c.tc : Thread nD τ).loc main_arg0) = Layout.block ⟨3, ![2, 512, 768]⟩ ⟨3, ![8, 512, 768]⟩ 0 4 c A0
    ∧ m ((c.tc : Thread nD τ).loc main_arg1) = Layout.block ⟨2, ![768, 512]⟩ ⟨2, ![768, 2048]⟩ 1 4 c A1
    ∧ m ((c.tc : Thread nD τ).loc main_arg2) = A2
    ∧ m ((c.tc : Thread nD τ).loc main_arg3) = A3
    ∧ m ((c.tc : Thread nD τ).loc main_arg4) = Layout.block ⟨2, ![512, 768]⟩ ⟨2, ![2048, 768]⟩ 0 4 c A4)

include hm in
theorem rows_held (c : Dev nD) (b : Fin 2) (i : Fin 512) (e : Fin 768) : X0 m c (ix3 b i e) = A0 (ix3 (at2 c b) i e) :=
  (congrFun ((V1_of m c main_arg0 (by decide)).trans (hm c).1) _).trans (block_rows A0 c b i e)

include hm in
theorem held_wq (c : Dev nD) (e : Fin 768) (n : Fin 512) : (data m).wq c (ix2 e n) = A1 (ix2 e (at512 c n)) := by
  refine (pay7_apply (V1 m c main_arg1) e n).trans ?_
  rw [V1_of m c main_arg1 (by decide)]
  exact (congrFun (hm c).2.1 _).trans (block_wq A1 c e n)

include hm in
theorem held_wo (c : Dev nD) (n : Fin 512) (e : Fin 768) : (data m).wo c (ix2 n e) = A4 (ix2 (at512 c n) e) := by
  refine (pay8_apply (V1 m c main_arg4) n e).trans ?_
  rw [V1_of m c main_arg4 (by decide)]
  exact (congrFun (hm c).2.2.2.2 _).trans (block_wo A4 c n e)

include hm in
theorem held_kk (c : Dev nD) (p : Fin 16) (b : Fin 2) (j : Fin 512) (l : Fin 128) :
    (data m).kk c (ix4 p b j l) = A2 (ix4 (at2 c b) j ⟨2 * p.val + l.val / 64, by omega⟩ ⟨l.val % 64, by omega⟩) := by
  show V1 m c main_v12 (ix4 p b j l) = _
  rw [keys_eq m c, packed_apply c, (hm c).2.2.1]

include hm in
theorem held_vv (c : Dev nD) (p : Fin 16) (b : Fin 2) (j : Fin 512) (l : Fin 128) :
    (data m).vv c (ix4 p b j l) = A3 (ix4 (at2 c b) j ⟨2 * p.val + l.val / 64, by omega⟩ ⟨l.val % 64, by omega⟩) := by
  show V1 m c main_v20 (ix4 p b j l) = _
  rw [values_eq m c, packed_apply c, (hm c).2.2.2.1]

include hm in
theorem data_holds : Holds A1 A2 A3 A4 (data m) :=
  ⟨held_wq A0 A1 A2 A3 A4 m hm, held_wo A0 A1 A2 A3 A4 m hm, held_kk A0 A1 A2 A3 A4 m hm, held_vv A0 A1 A2 A3 A4 m hm⟩

/-! ## The arrays are finite where the blocks are -/

variable (h : ∀ c : Dev nD, (∀ i, ∃ r : ℝ, m ((c.tc : Thread nD τ).loc main_arg0) i = (r : EReal))
  ∧ (∀ i, ∃ r : ℝ, m ((c.tc : Thread nD τ).loc main_arg1) i = (r : EReal)) ∧ ∀ i, ∃ r : ℝ, m ((c.tc : Thread nD τ).loc main_arg2) i = (r : EReal))

include hm h in
theorem rows_real (B : Fin 8) (i : Fin 512) (e : Fin 768) : ∃ r : ℝ, A0 (ix3 B i e) = r := by
  obtain ⟨r, hr⟩ := (h ⟨B.val / 2, by show B.val / 2 < 4; omega⟩).1 (ix3 ⟨B.val % 2, by omega⟩ i e)
  refine ⟨r, Eq.trans ?_ hr⟩
  rw [(hm _).1]
  refine Eq.trans (congrArg (fun B => A0 (ix3 B i e)) (Fin.ext ?_)) (block_rows A0 _ _ i e).symm
  show B.val = 2 * (B.val / 2) + B.val % 2
  omega

include hm h in
theorem wq_real (e : Fin 768) (n : Fin 2048) : ∃ r : ℝ, A1 (ix2 e n) = r := by
  obtain ⟨r, hr⟩ := (h ⟨n.val / 512, by show n.val / 512 < 4; omega⟩).2.1 (ix2 e ⟨n.val % 512, by omega⟩)
  refine ⟨r, Eq.trans ?_ hr⟩
  rw [(hm _).2.1]
  refine Eq.trans (congrArg (fun n => A1 (ix2 e n)) (Fin.ext ?_)) (block_wq A1 _ e _).symm
  show n.val = 512 * (n.val / 512) + n.val % 512
  omega

include hm h in
theorem keys_real (B : Fin 8) (j : Fin 512) (H : Fin 32) (d : Fin 64) : ∃ r : ℝ, A2 (ix4 B j H d) = r := by
  obtain ⟨r, hr⟩ := (h 0).2.2 (ix4 B j H d)
  exact ⟨r, Eq.trans (congrFun (hm 0).2.2.1 _).symm hr⟩

include hm h in
/-- What the kernel leaves on device `c` is that device's block of the reference's result. -/
theorem res_block (c : Dev nD) :
    res m c = Layout.block ⟨3, ![2, 512, 768]⟩ ⟨3, ![8, 512, 768]⟩ 0 4 c (Cert.ReferenceIdeal.Value.whole A0 A1 A2 A3 A4) := by
  choose a0 h0 using rows_real A0 A1 A2 A3 A4 m hm h
  choose a1 h1 using wq_real A0 A1 A2 A3 A4 m hm h
  choose a2 h2 using keys_real A0 A1 A2 A3 A4 m hm h
  funext j
  obtain ⟨b, i, e, rfl⟩ : ∃ b i e, j = ix3 b i e := ⟨j 0, j 1, j 2, eq_ix3 j⟩
  refine (result_apply (data_holds A0 A1 A2 A3 A4 m hm) c (rows_held A0 A1 A2 A3 A4 m hm c) b i e).trans ?_
  exact (Cert.ReferenceIdeal.Value.whole_eq A3 A4 a0 h0 a1 h1 a2 h2 (at2 c b) i e).symm.trans (block_rows _ c b i e).symm

end Cert.KernelIdeal.Ring
-- ==== Proof.lean ====
/- The certificate's claims: the frames of the kernel (as printed and idealized) and of the reference, the naming of the
   mask's constant, and the kernel's result against the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelIdeal.Launch
public import proofs.«01_k».proof.Proof.Kernel.Launch
public import proofs.«01_k».proof.Proof.Value.Tie
public import Idealize.ShloMosaic.Lib.Quiescent

@[expose] public section

noncomputable section

namespace Cert.Proof

open Idealize.ShloMosaic Idealize.SL.Sem

/-- The kernel runs, leaves its arguments unchanged and every counter at zero. -/
theorem frame_kernel : Cert.quiescent_Kernel := fun m g _ =>
  (θ_run Cert.Kernel.defs _ _).mono
    (fun _ h => ⟨fun c => ⟨(h.1 c).1, (h.1 c).2.1, (h.1 c).2.2.1, (h.1 c).2.2.2.1, (h.1 c).2.2.2.2.1⟩, h.2⟩)
    (Cert.Kernel.Ring.run_main (F := Bits) m g)

/-- The same of the kernel over the extended reals. -/
theorem frame_ideal : Cert.quiescent_KernelIdeal := fun m g _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Ring.run_main (F := Ideal) m g)

/-- The same of the reference, which declares no semaphore. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The one constant with a name, the mask's, is −∞ over the extended reals. -/
theorem mask_named : Cert.preserves_Kernel_KernelIdeal :=
  IdealRules.named_const.statement Cert.KernelIdeal.κ "mask" .f32 0xCE6E6B28#32 ⊥ rfl

/-- The shape relations of the precondition's operations, at the reference's shapes. -/
theorem facts_reference : Cert.Pre_finite_ReferenceIdeal.Facts := by constructor <;> decide

/-- The kernel leaves on each device its block of what the reference computes of the whole arrays. -/
theorem algebraic : Cert.algebraic_KernelIdeal_ReferenceIdeal_pre_finite_KernelIdeal
    (hPre_finite_KernelIdeal := Cert.Pre_finite_KernelIdeal.facts) := by
  intro m g m' g' hpre hm
  have := Cert.Pre_finite_KernelIdeal.facts
  have hfin := fun c => Cert.Pre_finite_KernelIdeal.reals _ _ _ _ _ (hpre c)
  refine ⟨_, (θ_run Cert.KernelIdeal.defs _ _).mono (fun _ h c => ?_) (Cert.KernelIdeal.Ring.run_main (F := Ideal) m g),
    (θ_run Cert.ReferenceIdeal.defs _ _).mono (fun r h => ⟨(h 0).1.trans (Cert.ReferenceIdeal.Value.res_eq m' 0), (h 0).2⟩)
      (Cert.ReferenceIdeal.Value.run (F := Ideal) m' g')⟩
  obtain ⟨h0, h1, h2, h3, h4, hv⟩ := h.1 c
  exact ⟨hv.trans (Cert.KernelIdeal.Ring.res_block _ _ _ _ _ m hm hfin c), h0, h1, h2, h3, h4⟩

theorem claim : Cert.Claim := ⟨Cert.Kernel.Gen.facts, Cert.KernelIdeal.Gen.facts, Cert.ReferenceIdeal.Gen.facts,
  Cert.Pre_finite_KernelIdeal.facts, facts_reference, frame_kernel, frame_ideal, fun m g _ => frame_ideal m g trivial,
  frame_reference, fun m g _ => frame_reference m g trivial, mask_named, algebraic⟩

end Cert.Proof

end
